-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S16384x10 : Shape := ⟨2, ![16384, 10]⟩
abbrev S100000x128 : Shape := ⟨2, ![100000, 128]⟩
abbrev S1024x1280 : Shape := ⟨2, ![1024, 1280]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S16384x10 : S_.BroadcastsInDim S16384x10 (![] : Fin 0 → Fin S16384x10.rank)
  reducesTo_S16384x10_S_d0_1 : S16384x10.ReducesTo [0, 1] S_
  h_S_ : 0 < S_.numel

variable [Facts]

def fn {F : FTy → Type} [FloatOps F] (main_arg0 : IVec S16384x10 32) (main_arg1 : FVec F S100000x128 .f32) (main_arg2 : FVec F S1024x1280 .f32) (main_arg3 : FVec F S1024 .f32) (main_arg4 : FVec F S1x1024 .f32) (main_arg5 : FVec F S1 .f32) : IVec S_ 1 :=
  let main_c : IVec S_ 32 := constantI S_ 32 0#32
  let main_v0 : IVec S16384x10 32 := broadcastInDim S16384x10 ![] bcast_S_S16384x10 main_c
  let main_v1 : IVec S16384x10 1 := cmpi .sge main_arg0 main_v0
  let main_c_0 : IVec S_ 32 := constantI S_ 32 100000#32
  let main_v2 : IVec S16384x10 32 := broadcastInDim S16384x10 ![] bcast_S_S16384x10 main_c_0
  let main_v3 : IVec S16384x10 1 := cmpi .slt main_arg0 main_v2
  let main_v4 : IVec S16384x10 1 := andi main_v1 main_v3
  let main_c_1 : IVec S_ 1 := constantI S_ 1 1#1
  let main_v5 : IVec S_ 1 := (fun x v => Host.reduce IntOp.andi x v reducesTo_S16384x10_S_d0_1 h_S_) main_v4 main_c_1
  main_v5
-- ==== Kernel.lean ====
abbrev S16384x10 : Shape := ⟨2, ![16384, 10]⟩
abbrev S100000x128 : Shape := ⟨2, ![100000, 128]⟩
abbrev S1024x1280 : Shape := ⟨2, ![1024, 1280]⟩
abbrev S1024 : Shape := ⟨1, ![1024]⟩
abbrev S1x1024 : Shape := ⟨2, ![1, 1024]⟩
abbrev S1 : Shape := ⟨1, ![1]⟩
abbrev S1280x1024 : Shape := ⟨2, ![1280, 1024]⟩
abbrev S_ : Shape := ⟨0, ![]⟩
abbrev S1024x128 : Shape := ⟨2, ![1024, 128]⟩
abbrev S1x1 : Shape := ⟨2, ![1, 1]⟩
abbrev S4096x10 : Shape := ⟨2, ![4096, 10]⟩
abbrev S10x4096 : Shape := ⟨2, ![10, 4096]⟩
abbrev S40960 : Shape := ⟨1, ![40960]⟩
abbrev S40960x128 : Shape := ⟨2, ![40960, 128]⟩
abbrev S1280 : Shape := ⟨1, ![1280]⟩
abbrev S320x128 : Shape := ⟨2, ![320, 128]⟩
abbrev S320 : Shape := ⟨1, ![320]⟩
abbrev S960 : Shape := ⟨1, ![960]⟩
abbrev S10x4096x128 : Shape := ⟨3, ![10, 4096, 128]⟩
abbrev S4096 : Shape := ⟨1, ![4096]⟩
abbrev S10x2048x128 : Shape := ⟨3, ![10, 2048, 128]⟩
abbrev S2048 : Shape := ⟨1, ![2048]⟩
abbrev S1x2048x128 : Shape := ⟨3, ![1, 2048, 128]⟩
abbrev S2048x128 : Shape := ⟨2, ![2048, 128]⟩
abbrev S2048x1280 : Shape := ⟨2, ![2048, 1280]⟩
abbrev S2048x1024 : Shape := ⟨2, ![2048, 1024]⟩
abbrev S2048x1 : Shape := ⟨2, ![2048, 1]⟩
abbrev S16384 : Shape := ⟨1, ![16384]⟩

abbrev nBuf : Table → Nat
  | .hbm => 43
  | .local .tc .vmem => 32
  | .local .scVector .vmem => 12
  | _ => 0

abbrev bufTy : (tb : Table) → Fin (nBuf tb) → BufTy
  | .hbm, ⟨0, _⟩ => ⟨S16384x10, .i32⟩
  | .hbm, ⟨1, _⟩ => ⟨S100000x128, .f32⟩
  | .hbm, ⟨2, _⟩ => ⟨S1024x1280, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S1280x1024, .f32⟩
  | .hbm, ⟨7, _⟩ => ⟨S1280x1024, .bf16⟩
  | .hbm, ⟨8, _⟩ => ⟨S1024, .bf16⟩
  | .hbm, ⟨9, _⟩ => ⟨S1x1024, .bf16⟩
  | .hbm, ⟨10, _⟩ => ⟨S_, .f32⟩
  | .hbm, ⟨11, _⟩ => ⟨S1024x128, .f32⟩
  | .hbm, ⟨12, _⟩ => ⟨S1024, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S1x1, .f32⟩
  | .hbm, ⟨18, _⟩ => ⟨S4096x10, .i32⟩
  | .hbm, ⟨19, _⟩ => ⟨S10x4096, .i32⟩
  | .hbm, ⟨20, _⟩ => ⟨S40960, .i32⟩
  | .hbm, ⟨21, _⟩ => ⟨S40960x128, .f32⟩
  | .hbm, ⟨22, _⟩ => ⟨S10x4096x128, .f32⟩
  | .hbm, ⟨23, _⟩ => ⟨S4096, .f32⟩
  | .hbm, ⟨24, _⟩ => ⟨S4096x10, .i32⟩
  | .hbm, ⟨25, _⟩ => ⟨S10x4096, .i32⟩
  | .hbm, ⟨26, _⟩ => ⟨S40960, .i32⟩
  | .hbm, ⟨27, _⟩ => ⟨S40960x128, .f32⟩
  | .hbm, ⟨28, _⟩ => ⟨S10x4096x128, .f32⟩
  | .hbm, ⟨29, _⟩ => ⟨S4096, .f32⟩
  | .hbm, ⟨30, _⟩ => ⟨S4096x10, .i32⟩
  | .hbm, ⟨31, _⟩ => ⟨S10x4096, .i32⟩
  | .hbm, ⟨32, _⟩ => ⟨S40960, .i32⟩
  | .hbm, ⟨33, _⟩ => ⟨S40960x128, .f32⟩
  | .hbm, ⟨34, _⟩ => ⟨S10x4096x128, .f32⟩
  | .hbm, ⟨35, _⟩ => ⟨S4096, .f32⟩
  | .hbm, ⟨36, _⟩ => ⟨S4096x10, .i32⟩
  | .hbm, ⟨37, _⟩ => ⟨S10x4096, .i32⟩
  | .hbm, ⟨38, _⟩ => ⟨S40960, .i32⟩
  | .hbm, ⟨39, _⟩ => ⟨S40960x128, .f32⟩
  | .hbm, ⟨40, _⟩ => ⟨S10x4096x128, .f32⟩
  | .hbm, ⟨41, _⟩ => ⟨S4096, .f32⟩
  | .hbm, ⟨42, _⟩ => ⟨S16384, .f32⟩
  | .local .tc .vmem, ⟨0, _⟩ => ⟨S10x2048x128, .f32⟩
  | .local .tc .vmem, ⟨1, _⟩ => ⟨S10x2048x128, .f32⟩
  | .local .tc .vmem, ⟨2, _⟩ => ⟨S1280x1024, .bf16⟩
  | .local .tc .vmem, ⟨3, _⟩ => ⟨S1x1024, .bf16⟩
  | .local .tc .vmem, ⟨4, _⟩ => ⟨S1024x128, .bf16⟩
  | .local .tc .vmem, ⟨5, _⟩ => ⟨S1x1, .f32⟩
  | .local .tc .vmem, ⟨6, _⟩ => ⟨S2048, .f32⟩
  | .local .tc .vmem, ⟨7, _⟩ => ⟨S2048, .f32⟩
  | .local .tc .vmem, ⟨8, _⟩ => ⟨S10x2048x128, .f32⟩
  | .local .tc .vmem, ⟨9, _⟩ => ⟨S10x2048x128, .f32⟩
  | .local .tc .vmem, ⟨10, _⟩ => ⟨S1280x1024, .bf16⟩
  | .local .tc .vmem, ⟨11, _⟩ => ⟨S1x1024, .bf16⟩
  | .local .tc .vmem, ⟨12, _⟩ => ⟨S1024x128, .bf16⟩
  | .local .tc .vmem, ⟨13, _⟩ => ⟨S1x1, .f32⟩
  | .local .tc .vmem, ⟨14, _⟩ => ⟨S2048, .f32⟩
  | .local .tc .vmem, ⟨15, _⟩ => ⟨S2048, .f32⟩
  | .local .tc .vmem, ⟨16, _⟩ => ⟨S10x2048x128, .f32⟩
  | .local .tc .vmem, ⟨17, _⟩ => ⟨S10x2048x128, .f32⟩
  | .local .tc .vmem, ⟨18, _⟩ => ⟨S1280x1024, .bf16⟩
  | .local .tc .vmem, ⟨19, _⟩ => ⟨S1x1024, .bf16⟩
  | .local .tc .vmem, ⟨20, _⟩ => ⟨S1024x128, .bf16⟩
  | .local .tc .vmem, ⟨21, _⟩ => ⟨S1x1, .f32⟩
  | .local .tc .vmem, ⟨22, _⟩ => ⟨S2048, .f32⟩
  | .local .tc .vmem, ⟨23, _⟩ => ⟨S2048, .f32⟩
  | .local .tc .vmem, ⟨24, _⟩ => ⟨S10x2048x128, .f32⟩
  | .local .tc .vmem, ⟨25, _⟩ => ⟨S10x2048x128, .f32⟩
  | .local .tc .vmem, ⟨26, _⟩ => ⟨S1280x1024, .bf16⟩
  | .local .tc .vmem, ⟨27, _⟩ => ⟨S1x1024, .bf16⟩
  | .local .tc .vmem, ⟨28, _⟩ => ⟨S1024x128, .bf16⟩
  | .local .tc .vmem, ⟨29, _⟩ => ⟨S1x1, .f32⟩
  | .local .tc .vmem, ⟨30, _⟩ => ⟨S2048, .f32⟩
  | .local .tc .vmem, ⟨31, _⟩ => ⟨S2048, .f32⟩
  | .local .scVector .vmem, ⟨0, _⟩ => ⟨S1280, .i32⟩
  | .local .scVector .vmem, ⟨1, _⟩ => ⟨S320x128, .f32⟩
  | .local .scVector .vmem, ⟨2, _⟩ => ⟨S320x128, .f32⟩
  | .local .scVector .vmem, ⟨3, _⟩ => ⟨S1280, .i32⟩
  | .local .scVector .vmem, ⟨4, _⟩ => ⟨S320x128, .f32⟩
  | .local .scVector .vmem, ⟨5, _⟩ => ⟨S320x128, .f32⟩
  | .local .scVector .vmem, ⟨6, _⟩ => ⟨S1280, .i32⟩
  | .local .scVector .vmem, ⟨7, _⟩ => ⟨S320x128, .f32⟩
  | .local .scVector .vmem, ⟨8, _⟩ => ⟨S320x128, .f32⟩
  | .local .scVector .vmem, ⟨9, _⟩ => ⟨S1280, .i32⟩
  | .local .scVector .vmem, ⟨10, _⟩ => ⟨S320x128, .f32⟩
  | .local .scVector .vmem, ⟨11, _⟩ => ⟨S320x128, .f32⟩
  | _, _ => ⟨S16384x10, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => false
  | ⟨32, _⟩ => false
  | ⟨33, _⟩ => false
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => false
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_arg1_scv : Ref sig .scVector := ⟨.hbm, 1, rfl⟩
abbrev main_v12_scv : Ref sig .scVector := ⟨.hbm, 20, rfl⟩
abbrev main_v13_scv : Ref sig .scVector := ⟨.hbm, 21, rfl⟩
abbrev main_v18_scv : Ref sig .scVector := ⟨.hbm, 26, rfl⟩
abbrev main_v19_scv : Ref sig .scVector := ⟨.hbm, 27, rfl⟩
abbrev main_v24_scv : Ref sig .scVector := ⟨.hbm, 32, rfl⟩
abbrev main_v25_scv : Ref sig .scVector := ⟨.hbm, 33, rfl⟩
abbrev main_v30_scv : Ref sig .scVector := ⟨.hbm, 38, rfl⟩
abbrev main_v31_scv : Ref sig .scVector := ⟨.hbm, 39, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc3_stg4_0 : Ref sig .tc := ⟨.vmem, 13, rfl⟩
abbrev cc3_stg5_0 : Ref sig .tc := ⟨.vmem, 14, rfl⟩
abbrev cc3_stg5_1 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg2_0 : Ref sig .tc := ⟨.vmem, 19, rfl⟩
abbrev cc5_stg3_0 : Ref sig .tc := ⟨.vmem, 20, rfl⟩
abbrev cc5_stg4_0 : Ref sig .tc := ⟨.vmem, 21, rfl⟩
abbrev cc5_stg5_0 : Ref sig .tc := ⟨.vmem, 22, rfl⟩
abbrev cc5_stg5_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg2_0 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg5_0 : Ref sig .tc := ⟨.vmem, 30, rfl⟩
abbrev cc7_stg5_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let c320_i32 : BitVec 32 := 320#32
  let v5 : BitVec 32 := Scalar.addi v2 c320_i32
  ![v5.toNat]
def k0_off3 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v10 : BitVec 32 := Scalar.addi v2 c0_i32_8
  let c0_i32_9 : BitVec 32 := 0#32
  ![v10.toNat, 0]
abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S10x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let c320_i32 : BitVec 32 := 320#32
  let v5 : BitVec 32 := Scalar.addi v2 c320_i32
  ![v5.toNat]
def k2_off3 (i : grid2.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v10 : BitVec 32 := Scalar.addi v2 c0_i32_8
  let c0_i32_9 : BitVec 32 := 0#32
  ![v10.toNat, 0]
abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S10x2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1280x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k4_off2 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let c320_i32 : BitVec 32 := 320#32
  let v5 : BitVec 32 := Scalar.addi v2 c320_i32
  ![v5.toNat]
def k4_off3 (i : grid4.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v10 : BitVec 32 := Scalar.addi v2 c0_i32_8
  let c0_i32_9 : BitVec 32 := 0#32
  ![v10.toNat, 0]
abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  ![arg0.toNat]

abbrev stage5_0 : Fin 2 → Memref sig .tc .vmem S10x2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1280x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
def k6_off2 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let c320_i32 : BitVec 32 := 320#32
  let v5 : BitVec 32 := Scalar.addi v2 c320_i32
  ![v5.toNat]
def k6_off3 (i : grid6.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v10 : BitVec 32 := Scalar.addi v2 c0_i32_8
  let c0_i32_9 : BitVec 32 := 0#32
  ![v10.toNat, 0]
abbrev grid7 : Pipeline.Grid := ⟨1, ![2], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  ![arg0.toNat]

abbrev stage7_0 : Fin 2 → Memref sig .tc .vmem S10x2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1280x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S16384x10 : Shape := ⟨2, ![16384, 10]⟩
abbrev S100000x128 : Shape := ⟨2, ![100000, 128]⟩
abbrev S1024x1280 : Shape := ⟨2, ![1024, 1280]⟩
abbrev S1024 : Shape := ⟨1, ![1024]⟩
abbrev S1x1024 : Shape := ⟨2, ![1, 1024]⟩
abbrev S1 : Shape := ⟨1, ![1]⟩
abbrev S_ : Shape := ⟨0, ![]⟩
abbrev S16384x10x1 : Shape := ⟨3, ![16384, 10, 1]⟩
abbrev S1x1x1 : Shape := ⟨3, ![1, 1, 1]⟩
abbrev S16384x10x128 : Shape := ⟨3, ![16384, 10, 128]⟩
abbrev S16384x1280 : Shape := ⟨2, ![16384, 1280]⟩
abbrev S1280x1024 : Shape := ⟨2, ![1280, 1024]⟩
abbrev S16384x1024 : Shape := ⟨2, ![16384, 1024]⟩
abbrev S1024x1 : Shape := ⟨2, ![1024, 1]⟩
abbrev S16384x1 : Shape := ⟨2, ![16384, 1]⟩
abbrev S1x1 : Shape := ⟨2, ![1, 1]⟩
abbrev S16384 : Shape := ⟨1, ![16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x10, .i32⟩
  | .hbm, ⟨1, _⟩ => ⟨S100000x128, .f32⟩
  | .hbm, ⟨2, _⟩ => ⟨S1024x1280, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S_, .i32⟩
  | .hbm, ⟨7, _⟩ => ⟨S16384x10, .i32⟩
  | .hbm, ⟨8, _⟩ => ⟨S16384x10, .i1⟩
  | .hbm, ⟨9, _⟩ => ⟨S_, .i32⟩
  | .hbm, ⟨10, _⟩ => ⟨S16384x10, .i32⟩
  | .hbm, ⟨11, _⟩ => ⟨S16384x10, .i32⟩
  | .hbm, ⟨12, _⟩ => ⟨S16384x10, .i32⟩
  | .hbm, ⟨13, _⟩ => ⟨S16384x10x1, .i32⟩
  | .hbm, ⟨14, _⟩ => ⟨S1, .i32⟩
  | .hbm, ⟨15, _⟩ => ⟨S_, .i32⟩
  | .hbm, ⟨16, _⟩ => ⟨S16384x10x1, .i32⟩
  | .hbm, ⟨17, _⟩ => ⟨S16384x10x1, .i1⟩
  | .hbm, ⟨18, _⟩ => ⟨S1x1x1, .i32⟩
  | .hbm, ⟨19, _⟩ => ⟨S16384x10x1, .i32⟩
  | .hbm, ⟨20, _⟩ => ⟨S16384x10x1, .i1⟩
  | .hbm, ⟨21, _⟩ => ⟨S16384x10x1, .i1⟩
  | .hbm, ⟨22, _⟩ => ⟨S_, .i1⟩
  | .hbm, ⟨23, _⟩ => ⟨S16384x10, .i1⟩
  | .hbm, ⟨24, _⟩ => ⟨S16384x10x128, .f32⟩
  | .hbm, ⟨25, _⟩ => ⟨S16384x10x128, .i1⟩
  | .hbm, ⟨26, _⟩ => ⟨S_, .f32⟩
  | .hbm, ⟨27, _⟩ => ⟨S16384x10x128, .f32⟩
  | .hbm, ⟨28, _⟩ => ⟨S16384x10x128, .f32⟩
  | .hbm, ⟨29, _⟩ => ⟨S16384x1280, .f32⟩
  | .hbm, ⟨30, _⟩ => ⟨S1280x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1024x1, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384, .f32⟩
  | _, _ => ⟨S16384x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_cst : Ref sig .tc := ⟨.hbm, 35, rfl⟩
abbrev main_call1_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_cst_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Common.lean ====
/-
  What every module of the proof shares: the program as the launch theorem sees it, the resource algebra, and small
  facts about a memref's slices.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct, none is scoped, and no task shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL
abbrev EP : Emb UP (MT nD τ sig (HIx 4) (Elt F) ℕ UU ℕ) :=
  (Emb.inl : Emb UP (UP × Counters)).trans embR

/-! ## Reads and writes through slices of one view -/

section Slices

variable {sg : RefSig} {κ : Kind} {sp : Space} {s : Shape} {e : EltTy} {Val : EltTy → Type}

/-- What one rectangle of a view reads after a write through another: the payload, where the two meet. -/
theorem read_slice_write_slice (v : View sg κ sp s e) (r₁ r₂ : Rect s) (f : v.ty.Contents Val) (w : r₂.shape.Idx → Val e)
    (x : r₁.shape.Idx) (y : r₂.shape.Idx) (h : r₁.emb x = r₂.emb y) :
    (v.slice r₁).read Val ((v.slice r₂).write Val f w Finset.univ) x = w y := by
  rw [show (v.slice r₁).read Val ((v.slice r₂).write Val f w Finset.univ) x
      = v.read Val ((v.slice r₂).write Val f w Finset.univ) (r₁.emb x) from rfl, h]
  exact View.read_slice_write_emb r₂ f w (Finset.mem_univ y)

/-- A write through a rectangle agrees, on the rectangle, with a write of the whole view whose payload restricts to it. -/
theorem write_slice_agrees (v : View sg κ sp s e) (r : Rect s) (f : v.ty.Contents Val) (w : r.shape.Idx → Val e)
    (W : s.Idx → Val e) (h : ∀ x, w x = W (r.emb x)) :
    ∀ i ∈ (v.slice r).set, (v.slice r).write Val f w Finset.univ i = v.write Val f W Finset.univ i := by
  intro i hi
  obtain ⟨x, -, rfl⟩ := Finset.mem_map.mp hi
  rw [View.write_emb_of_mem _ _ (Finset.mem_univ x),
    show (v.slice r).emb x = v.emb (r.emb x) from rfl, View.write_emb_of_mem _ _ (Finset.mem_univ _), h]

end Slices

/-! ## The rows a list of indices names -/

/-- The index of row `n`, column `j` of the table (row `n` modulo the table's rows, so that it is one for every `n`). -/
def tIx (n : ℕ) (j : Fin 128) : S100000x128.Idx := Shape.pair (d := ![100000, 128]) (⟨n % 100000, Nat.mod_lt _ (by decide)⟩ : Fin 100000) j

/-- A position of the index list. -/
def lIx (n : Fin 40960) : S40960.Idx := fun a => match a with | 0 => n

/-- The gather: row `p` of the result is the table's row that the list's entry `p` names. -/
def gath {α : Type} (tb : S100000x128.Idx → α) (ix : S40960.Idx → BitVec 32) : S40960x128.Idx → α :=
  fun p => tb (tIx (ix (lIx (p 0))).toNat (p 1))

end Cert.Proof

end
-- ==== Proof.Tile.lean ====
/-
  One SparseCore gather task, for any memrefs: the two index fetches, the four indirect gathers through two row buffers,
  the four copies out. The four gather calls of the program run this one body.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- The credits of a row buffer's rows, one by one, are the row buffer's. -/
theorem rowsum (dst : Memref sig .scVector .vmem S320x128 .f32) (a' : Fin S320x128.rank) :
  ∑ j, (dst.slice (S320x128.rowRect a' j) (S320x128.stride_rowRect a' j)).view.dmaCredit = dst.view.dmaCredit :=
  SparseCore.sum_rowCredit_eq_dmaCredit dst a' (fun _ => rfl)

/-- The gather's payload in closed form. -/
theorem gatherPayload_eq (g : S100000x128.Idx → Elt F .f32) (w : S320.Idx → BitVec 32)
    (hin : ∀ x, (w x).toNat < S100000x128.size gathers_S100000x128_S320x128.axis) (x : S320x128.Idx) :
    SparseCore.gatherPayload (F := F) gathers_S100000x128_S320x128 g (SparseCore.rows (F := F) w rfl hin) x
      = g (tIx (w (fun | 0 => x 0)).toNat (x 1)) := by
  have hw : (Shape.rowMajor S320).symm ((x gathers_S100000x128_S320x128.axis').cast rfl) = (fun | 0 => x 0 : S320.Idx) := by
    rw [Equiv.symm_apply_eq]; exact Fin.ext (by rw [Shape.rowMajor_val_one]; rfl)
  unfold SparseCore.gatherPayload
  congr 1
  funext b
  refine Fin.ext ?_
  match b with
  | 0 =>
    refine (congrArg Fin.val (Shape.Gathers.idx_axis gathers_S100000x128_S320x128 (SparseCore.rows (F := F) w rfl hin) x)).trans ?_
    show (w ((Shape.rowMajor S320).symm ((x gathers_S100000x128_S320x128.axis').cast rfl))).toNat = (w _).toNat % 100000
    rw [hw]; exact (Nat.mod_eq_of_lt (hin _)).symm
  | 1 => exact (Shape.Gathers.idx_of_ne gathers_S100000x128_S320x128 (SparseCore.rows (F := F) w rfl hin) x 1 (by decide)).trans rfl

/-- Part of what a points-to holds, lent: the part, and the whole back for it. -/
theorem lend {ℓ : Loc nD τ sig} {I J : Finset (Idx ℓ)} (h : I ⊆ J) (q : PosShare TreeShare) (f : Buf (Elt F) ℓ) :
    (ℓ ↦[J]{q} f : sProp 𝕄) ⊢ iprop((ℓ ↦[I]{q} f) ∗ ((ℓ ↦[I]{q} f) -∗ ℓ ↦[J]{q} f)) := by
  iintro H
  ihave H' := (pointsTo_split_subset h).1 $$ H
  icases H' with ⟨H, Hr⟩
  isplitl [H]; · iexact H
  iintro H
  iapply (pointsTo_split_subset h).2
  isplitl [H] <;> iassumption

/-- The vector subcore a grid point's task runs on. -/
abbrev tl (d : Dev nD) (i : grid0.Coords) : Thread nD τ := V d ((i 0).castLE hcore0) ((i 1).castLE hsub0)

/-! ## The task's three kinds of step -/

/-- Starting a copy: its source's share and its destination go into the flight. -/
theorem dma_step (c : Thread nD τ) {α : Type} {sp sp' : Space} {s : Shape} {e : EltTy} {src : Memref sig c.2.kind sp s e} {dst : Memref sig c.2.kind sp' s e}
    {sem : DmaSem sig} {hsrc : src.view.WordExact} {hdst : dst.view.WordExact} {hsem : DmaTarget.Typed (nD := nD) sp (SemLoc.dma sem) (.here dst)}
    {k : PUnit → Prog (TpuEff nD τ sig (Elt F) Λ₀ c.2) α} {Q : α → sProp 𝕄} {q : PosShare TreeShare} {fs : Buf (Elt F) (src.view.loc c)}
    {Sd : Finset (Idx (dst.view.loc c))} {fd : Buf (Elt F) (dst.view.loc c)} (h0 : 0 < s.numel) (hSd : dst.view.set ⊆ Sd) :
    iprop((src.view.loc c ↦[src.view.set]{q} fs) ∗ (dst.view.loc c ↦[Sd]{fullShare} fd) ∗ semVal (c, SemLoc.dma sem) 0)
      ⊢ iprop((Transfers.Flight countersEmb c (.dma sem) (default : HIx 4) dst.view.dmaCredit
            iprop((dst.view.loc c ↦[Sd]{fullShare} (dst.view.write (Elt F) fd (src.view.read (Elt F) fs) Finset.univ))
              ∗ (src.view.loc c ↦[src.view.set]{q} fs))
          -∗ wp frame (wpE (defs₀ (F := F)) 𝒱₀ c none) Set.univ (k ⟨⟩) Q)
        -∗ wp frame (wpE (defs₀ (F := F)) 𝒱₀ c none) Set.univ (.op (.enqueueDma src (.here dst) (.dma sem) hsrc hdst hsem) k) Q) :=
  Transfers.wp_dmaLocal (src := src) (dst := dst) (via := .same) (q := q) (fs := fs) (fd := fd) (Sd := Sd) (k := k) countersEmb 𝒱₀ c none
    (default : HIx 4) dst.view.dmaCredit rfl (View.dmaCredit_pos _ h0) hSd

/-- Waiting for a copy or a gather: what its flight delivers, the semaphore at zero. -/
theorem wait_step (c : Thread nD τ) {α : Type} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {Q : α → sProp 𝕄} {D : sProp 𝕄}
    {O : CellTallies nD τ sig (HIx 4)} {W : Waits sig (HIx 4)} :
    iprop(Transfers.Flight countersEmb c (.dma sem) (default : HIx 4) dstw.view.dmaCredit D ∗ owes c O W ∗ Transfers.MayWaits c (default : HIx 4) O)
      ⊢ iprop((iprop(D ∗ semVal (c, SemLoc.dma sem) 0 ∗ owes c O (insert (SemLoc.dma sem, default) W)) -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  iintro ⟨Hf, HO, Hmw⟩
  iapply (Transfers.wp_waitLocalO countersEmb 𝒱₀ c none (default : HIx 4) (rfl : dstw.view.dmaCredit = _))
  isplitl [Hf]; · iexact Hf
  isplitl [HO]; · iexact HO
  iapply (Transfers.MayWaits.elim (SemLoc.dma sem)); iexact Hmw

/-- Starting a gather of 320 rows: the table's share, the row buffer and the list's part go into the flight. -/
theorem gather_step (d : Dev nD) (i : grid0.Coords) {α : Type} {src : Memref sig .scVector .hbm S100000x128 .f32} {dst : Memref sig .scVector .vmem S320x128 .f32}
    {offs : Memref sig .scVector .vmem S320 .i32} {hn : S320.numel = S320x128.size gathers_S100000x128_S320x128.axis'} {sem : DmaSem sig}
    {hp : Kind.scVector = .scVector} {hsrc : src.view.WordExact} {he : EltTy.f32.bits = 32} {hsp : Space.hbm = .hbm ∨ Space.hbm = .shared} {hr : S100000x128.StreamRows 0}
    {k : PUnit → Prog (TpuEff nD τ sig (Elt F) Λ₀ (tl d i).2) α} {Q : α → sProp 𝕄}
    {q : PosShare TreeShare} {fs : Buf (Elt F) (src.view.loc (tl d i))} {fd : Buf (Elt F) (dst.view.loc (tl d i))} {fo : Buf (Elt F) (offs.view.loc (tl d i))}
    (hin : ∀ x, (offs.view.read (Elt F) fo x).toNat < S100000x128.size gathers_S100000x128_S320x128.axis) :
    iprop((src.view.loc (tl d i) ↦[src.view.set]{q} fs) ∗ (dst.view.loc (tl d i) ↦[dst.view.set]{fullShare} fd)
        ∗ (offs.view.loc (tl d i) ↦[offs.view.set]{fullShare} fo) ∗ semVal ((tl d i), SemLoc.dma sem) 0)
      ⊢ iprop((Transfers.Flight countersEmb (tl d i) (.dma sem) (default : HIx 4) dst.view.dmaCredit
            iprop((dst.view.loc (tl d i) ↦[dst.view.set]{fullShare}
                    (dst.view.write (Elt F) fd (SparseCore.gatherPayload gathers_S100000x128_S320x128 (src.view.read (Elt F) fs)
                      (SparseCore.rows (offs.view.read (Elt F) fo) hn hin)) Finset.univ))
              ∗ (src.view.loc (tl d i) ↦[src.view.set]{q} fs) ∗ (offs.view.loc (tl d i) ↦[offs.view.set]{fullShare} fo))
          -∗ wp frame (wpE (defs₀ (F := F)) 𝒱₀ (tl d i) none) Set.univ (k ⟨⟩) Q)
        -∗ wp frame (wpE (defs₀ (F := F)) 𝒱₀ (tl d i) none) Set.univ
            (SparseCore.enqueueIndirectGather (p := (tl d i).2) hp src dst gathers_S100000x128_S320x128 offs hn sem hsrc he hsp hr >>= k) Q) :=
  SparseCore.wp_indirectGatherLocal (src := src) (dst := dst) (offs := offs) (q := q) (fs := fs) (fd := fd) (fo := fo) (k := k) countersEmb 𝒱₀ (tl d i) none (hg := gathers_S100000x128_S320x128) (default : HIx 4) dst.view.dmaCredit
    (rowsum dst _) (by decide) hin

/-- The rows a tile writes in round `k`: 320 rows of the output. -/
abbrev oRect (i : grid0.Coords) (k : Fin 4) : Rect S40960x128 :=
  Rect.unit (s := S40960x128) (k0_off3 i (BitVec.ofNat 32 (320 * k.val))) S320x128.size (k0_off3_inb i k)

theorem base_lt (i : grid0.Coords) (k : Fin 4) (n : ℕ) (hn : n < 320) : 2560 * (i 1).val + 1280 * (i 0).val + 320 * k.val + n < 40960 := by
  have h0 : (i 0).val < 2 := (i 0).isLt
  have h1 : (i 1).val < 16 := (i 1).isLt
  have := k.isLt
  omega

/-- The list position of round `k`'s entry `x` of a tile. -/
abbrev roundIx (i : grid0.Coords) (k : Fin 4) (x : S320.Idx) : S40960.Idx := lIx ⟨2560 * (i 1).val + 1280 * (i 0).val + 320 * k.val + (x 0).val, base_lt i k _ (x 0).isLt⟩

/-- Round `k`'s gathered rows are the gather's rows at the round's place in the output. -/
theorem round_value (i : grid0.Coords) (k : Fin 4) (tb tb' : S100000x128.Idx → Elt F .f32) (htb : ∀ y, tb' y = tb y) (ixs : S40960.Idx → BitVec 32)
    (w : S320.Idx → BitVec 32) (hw : ∀ x, w x = ixs (roundIx i k x))
    (hin : ∀ x, (w x).toNat < S100000x128.size gathers_S100000x128_S320x128.axis) (x : S320x128.Idx) :
    SparseCore.gatherPayload (F := F) gathers_S100000x128_S320x128 tb' (SparseCore.rows (F := F) w rfl hin) x
      = gath tb ixs ((oRect i k).emb x) := by
  rw [gatherPayload_eq, hw, htb]
  have e0 : (((oRect i k).emb x) 0).val = 2560 * (i 1).val + 1280 * (i 0).val + 320 * k.val + (x 0).val := by
    show (k0_off3 i (BitVec.ofNat 32 (320 * k.val))) 0 + 1 * (x 0).val = _
    rw [k0_off3_eq]; simp
  have e1 : (((oRect i k).emb x) 1).val = (x 1).val := by
    show (k0_off3 i (BitVec.ofNat 32 (320 * k.val))) 1 + 1 * (x 1).val = _
    rw [k0_off3_eq]; simp
  unfold gath
  rw [show lIx (((oRect i k).emb x) 0) = roundIx i k (fun | 0 => x 0) from congrArg lIx (Fin.ext e0),
    show ((oRect i k).emb x) 1 = x 1 from Fin.ext e1]

/-- What the task on one tile is handed, its semaphores and scratch apart, with the output's rows at `f`: shares of the
    table and of the list, its four blocks of the output. -/
abbrev taskIO (d : Dev nD) (i : grid0.Coords) (arg2 : Memref sig .scVector .hbm S100000x128 .f32) (arg3 : Memref sig .scVector .hbm S40960 .i32)
    (arg4 : Memref sig .scVector .hbm S40960x128 .f32) (q2 q3 : PosShare TreeShare)
    (Tb : Buf (Elt F) (arg2.view.loc (tl d i)))
    (fi : Buf (Elt F) (arg3.view.loc (tl d i)))
    (fo : Buf (Elt F) (arg4.view.loc (tl d i))) : sProp 𝕄 :=
  iprop((arg2.view.loc (tl d i) ↦{q2} Tb)
    ∗ (arg3.view.loc (tl d i) ↦{q3} fi)
    ∗ (arg4.view.loc (tl d i) ↦[(arg4.view.slice (oRect i 0)).set]{fullShare} fo)
    ∗ (arg4.view.loc (tl d i) ↦[(arg4.view.slice (oRect i 1)).set]{fullShare} fo)
    ∗ (arg4.view.loc (tl d i) ↦[(arg4.view.slice (oRect i 2)).set]{fullShare} fo)
    ∗ (arg4.view.loc (tl d i) ↦[(arg4.view.slice (oRect i 3)).set]{fullShare} fo))

/-- A tile's scratch: the index list's part and the two row buffers, at any contents. -/
abbrev taskScratch (d : Dev nD) (i : grid0.Coords) (arg5 : Memref sig .scVector .vmem S1280 .i32) (arg6 arg7 : Memref sig .scVector .vmem S320x128 .f32) : sProp 𝕄 :=
  iprop((∃ f, arg5.view.loc (tl d i) ↦{fullShare} f)
    ∗ (∃ f, arg6.view.loc (tl d i) ↦{fullShare} f)
    ∗ (∃ f, arg7.view.loc (tl d i) ↦{fullShare} f))

/-- A tile's six semaphores at zero. -/
abbrev taskSems (d : Dev nD) (i : grid0.Coords) (arg8 arg9 arg10 arg11 a12 a13 : DmaSems sig S_) : sProp 𝕄 :=
  iprop(semVal (tl d i, .dma arg8.sem) 0 ∗ semVal (tl d i, .dma arg9.sem) 0
    ∗ semVal (tl d i, .dma arg10.sem) 0 ∗ semVal (tl d i, .dma arg11.sem) 0
    ∗ semVal (tl d i, .dma a12.sem) 0 ∗ semVal (tl d i, .dma a13.sem) 0)

set_option maxHeartbeats 1000000 in
/-- The gather task on vector subcore `i`: from a share of the table, a share of the index list whose words name rows of
    the table, and its four blocks of the output, it leaves in those blocks the rows the list names. -/
theorem gather_body (d : Dev nD) (i : grid0.Coords)
    (arg2 : Memref sig .scVector .hbm S100000x128 .f32) (harg2 : arg2.IsWhole) (arg3 : Memref sig .scVector .hbm S40960 .i32) (harg3 : arg3.IsWhole)
    (arg4 : Memref sig .scVector .hbm S40960x128 .f32) (harg4 : arg4.IsWhole) (arg5 : Memref sig .scVector .vmem S1280 .i32) (harg5 : arg5.IsWhole)
    (arg6 : Memref sig .scVector .vmem S320x128 .f32) (harg6 : arg6.IsWhole) (arg7 : Memref sig .scVector .vmem S320x128 .f32) (harg7 : arg7.IsWhole)
    (arg8 arg9 arg10 arg11 a12 a13 : DmaSems sig S_) (q2 q3 : PosShare TreeShare)
    (Tb : Buf (Elt F) (arg2.view.loc (tl d i)))
    (fi : Buf (Elt F) (arg3.view.loc (tl d i)))
    (fo : Buf (Elt F) (arg4.view.loc (tl d i)))
    (hin : ∀ p, (arg3.view.read (Elt F) fi p).toNat < 100000)
    (O : CellTallies nD τ sig (HIx 4)) (W : Waits sig (HIx 4)) :
    iprop(Transfers.MayWaits (tl d i) (default : HIx 4) O
        ∗ taskIO d i arg2 arg3 arg4 q2 q3 Tb fi fo ∗ taskScratch d i arg5 arg6 arg7 ∗ taskSems d i arg8 arg9 arg10 arg11 a12 a13
        ∗ owes (tl d i) O W)
      ⊢ wp frame (wpE (defs₀ (F := F)) 𝒱₀ (tl d i) none) Set.univ
      (cc0__gather_body i arg2 harg2 arg3 harg3 arg4 harg4 arg5 harg5 arg6 harg6 arg7 harg7 arg8 arg9 arg10 arg11 a12 a13)
      fun _ => iprop(taskIO d i arg2 arg3 arg4 q2 q3 Tb fi
            (arg4.view.write (Elt F) fo (gath (arg2.view.read (Elt F) Tb) (arg3.view.read (Elt F) fi)) Finset.univ)
          ∗ taskScratch d i arg5 arg6 arg7 ∗ taskSems d i arg8 arg9 arg10 arg11 a12 a13
          ∗ ∃ W', ⌜∀ p ∈ W', p ∈ W ∨ p.2 = none⌝ ∗ owes (tl d i) O W') := by
  simp only [cc0__gather_body_eq_skeleton]; unfold cc0__gather_body_skel
  simp only [k0_part1_eq_skeleton, k0_part2_eq_skeleton, k0_part1_skel, k0_part2_skel, Prog.bind_lift, Prog.bind_op, Prog.bind_ret,
    Prog.pure_eq_ret, Prog.bind_assoc, SparseCore.waitIndirectGather]
  have hs6 : arg6.view.set = Finset.univ := harg6.set_eq_univ
  have hs7 : arg7.view.set = Finset.univ := harg7.set_eq_univ
  iintro ⟨#Hmw, ⟨Ht, Hi, Ho0, Ho1, Ho2, Ho3⟩, ⟨⟨%f5, H5⟩, ⟨%f6, H6⟩, ⟨%f7, H7⟩⟩, ⟨Hvarg8, Hvarg9, Hvarg10, Hvarg11, Hva12, Hva13⟩, HO⟩
  -- the list's parts in the tile's memory, pairwise disjoint
  let A0 : Finset arg5.view.ty.Idx := (arg5.view.slice (Rect.unit (s := S1280) ![0] S320.size inb_S1280_S320_0)).set
  let B : Finset arg5.view.ty.Idx := (arg5.view.slice (Rect.unit (s := S1280) ![320] S960.size inb_S1280_S960_320)).set
  let A1 : Finset arg5.view.ty.Idx := (arg5.view.slice (Rect.unit (s := S1280) ![320] S320.size inb_S1280_S320_320)).set
  let A2 : Finset arg5.view.ty.Idx := (arg5.view.slice (Rect.unit (s := S1280) ![640] S320.size inb_S1280_S320_640)).set
  let A3 : Finset arg5.view.ty.Idx := (arg5.view.slice (Rect.unit (s := S1280) ![960] S320.size inb_S1280_S320_960)).set
  have hB : B ⊆ Finset.univ \ A0 := Finset.subset_sdiff.mpr ⟨Finset.subset_univ _, View.disjoint_slice_of_disj _ _ _ (by decide)⟩
  have h1 : A1 ⊆ Finset.univ \ A0 := Finset.subset_sdiff.mpr ⟨Finset.subset_univ _, View.disjoint_slice_of_disj _ _ _ (by decide)⟩
  have h2 : A2 ⊆ (Finset.univ \ A0) \ A1 := Finset.subset_sdiff.mpr ⟨Finset.subset_sdiff.mpr ⟨Finset.subset_univ _,
    View.disjoint_slice_of_disj _ _ _ (by decide)⟩, View.disjoint_slice_of_disj _ _ _ (by decide)⟩
  have h3 : A3 ⊆ ((Finset.univ \ A0) \ A1) \ A2 := Finset.subset_sdiff.mpr ⟨Finset.subset_sdiff.mpr ⟨Finset.subset_sdiff.mpr ⟨Finset.subset_univ _,
    View.disjoint_slice_of_disj _ _ _ (by decide)⟩, View.disjoint_slice_of_disj _ _ _ (by decide)⟩, View.disjoint_slice_of_disj _ _ _ (by decide)⟩
  have htb : ∀ y, (arg2.view.slice (Rect.unit (s := S100000x128) ![0, 0] S100000x128.size inb_S100000x128_S100000x128_0_0)).read (Elt F) Tb y = arg2.view.read (Elt F) Tb y := fun y =>
    congrArg (arg2.view.read (Elt F) Tb) (funext fun a => Fin.ext (by
      match a with
      | 0 => show 0 + 1 * (y 0).val = (y 0).val; omega
      | 1 => show 0 + 1 * (y 1).val = (y 1).val; omega))
  -- what the list's parts read: the tile's rounds of the list
  let g0 := (arg5.view.slice (Rect.unit (s := S1280) ![0] S320.size inb_S1280_S320_0)).write (Elt F) f5
    (((arg3.view.slice (Rect.unit (s := S40960) (k0_off1 i) S320.size (k0_off1_inb i))).read (Elt F) fi)) Finset.univ
  let g1 := (arg5.view.slice (Rect.unit (s := S1280) ![320] S960.size inb_S1280_S960_320)).write (Elt F) f5
    (((arg3.view.slice (Rect.unit (s := S40960) (k0_off2 i) S960.size (k0_off2_inb i))).read (Elt F) fi)) Finset.univ
  have hr0 : ∀ x, (arg5.view.slice (Rect.unit (s := S1280) ![0] S320.size inb_S1280_S320_0)).read (Elt F) g0 x = arg3.view.read (Elt F) fi (roundIx i 0 x) := by
    intro x
    refine (congrFun (View.read_write_univ (v := arg5.view.slice (Rect.unit (s := S1280) ![0] S320.size inb_S1280_S320_0)) f5 _) x).trans ?_
    refine congrArg (arg3.view.read (Elt F) fi) (funext fun a => Fin.ext ?_)
    match a with
    | 0 =>
      show (k0_off1 i) 0 + 1 * (x 0).val = 2560 * (i 1).val + 1280 * (i 0).val + 320 * 0 + (x 0).val
      rw [k0_off1_eq]; simp
  have hrk : ∀ (k : Fin 4) (hk : 1 ≤ k.val) (h : ∀ a, (![320 * k.val] : Fin 1 → ℕ) a + S320.size a ≤ S1280.size a) (x : S320.Idx),
      (arg5.view.slice (Rect.unit (s := S1280) ![320 * k.val] S320.size h)).read (Elt F) g1 x = arg3.view.read (Elt F) fi (roundIx i k x) := by
    intro k hk h x
    have hx : (x 0).val < 320 := (x 0).isLt
    have hlt : 320 * (k.val - 1) + (x 0).val < 960 := by omega
    refine (read_slice_write_slice arg5.view (Rect.unit (s := S1280) ![320 * k.val] S320.size h) (Rect.unit (s := S1280) ![320] S960.size inb_S1280_S960_320) f5 _ x
      (fun | 0 => ⟨320 * (k.val - 1) + (x 0).val, hlt⟩) (funext fun a => Fin.ext ?_)).trans ?_
    · match a with
      | 0 => show 320 * k.val + 1 * (x 0).val = 320 + 1 * (320 * (k.val - 1) + (x 0).val); omega
    · refine congrArg (arg3.view.read (Elt F) fi) (funext fun a => Fin.ext ?_)
      match a with
      | 0 =>
        show (k0_off2 i) 0 + 1 * (320 * (k.val - 1) + (x 0).val) = 2560 * (i 1).val + 1280 * (i 0).val + 320 * k.val + (x 0).val
        rw [k0_off2_eq]; simp; omega
  have hw0 := fun x => (congrArg BitVec.toNat (hr0 x)).trans_lt (hin _)
  have hw1 := fun x => (congrArg BitVec.toNat (hrk 1 (by decide) inb_S1280_S320_320 x)).trans_lt (hin _)
  have hw2 := fun x => (congrArg BitVec.toNat (hrk 2 (by decide) inb_S1280_S320_640 x)).trans_lt (hin _)
  have hw3 := fun x => (congrArg BitVec.toNat (hrk 3 (by decide) inb_S1280_S320_960 x)).trans_lt (hin _)
  -- the table's share in two, one for each gather in flight; the list's fetches
  ihave Ht' := (pointsTo_share (PosShare.mem_left_op_right q2)).1 $$ Ht
  icases Ht' with ⟨HtL, HtR⟩
  ihave HtL' := (lend (ℓ := arg2.view.loc (tl d i)) (Finset.subset_univ (arg2.view.slice (Rect.unit (s := S100000x128) ![0, 0] S100000x128.size inb_S100000x128_S100000x128_0_0)).set) q2.left Tb) $$ HtL
  icases HtL' with ⟨HtL, HtLb⟩
  ihave HtR' := (lend (ℓ := arg2.view.loc (tl d i)) (Finset.subset_univ (arg2.view.slice (Rect.unit (s := S100000x128) ![0, 0] S100000x128.size inb_S100000x128_S100000x128_0_0)).set) q2.right Tb) $$ HtR
  icases HtR' with ⟨HtR, HtRb⟩
  ihave H5' := (pointsTo_split_subset (ℓ := arg5.view.loc (tl d i)) (Finset.subset_univ A0)).1 $$ H5
  icases H5' with ⟨H5a, H5r⟩
  ihave H6 := (Entails.of_eq (show (arg6.view.loc (tl d i) ↦{fullShare} f6 : sProp 𝕄) = arg6.view.loc (tl d i) ↦[arg6.view.set]{fullShare} f6 by rw [hs6])) $$ H6
  ihave H7 := (Entails.of_eq (show (arg7.view.loc (tl d i) ↦{fullShare} f7 : sProp 𝕄) = arg7.view.loc (tl d i) ↦[arg7.view.set]{fullShare} f7 by rw [hs7])) $$ H7
  -- first fetch, first gather
  ihave Hi' := (lend (ℓ := arg3.view.loc (tl d i)) (Finset.subset_univ (arg3.view.slice (Rect.unit (s := S40960) (k0_off1 i) S320.size (k0_off1_inb i))).set) q3 fi) $$ Hi
  icases Hi' with ⟨Hi, Hib⟩
  iapply (dma_step (src := arg3.slice (Rect.unit (s := S40960) (k0_off1 i) S320.size (k0_off1_inb i)) (fun _ => rfl)) (dst := arg5.slice (Rect.unit (s := S1280) ![0] S320.size inb_S1280_S320_0) (fun _ => rfl)) (tl d i) (by decide : 0 < S320.numel) (Finset.Subset.refl A0)) $$ [Hi H5a Hva12]
  · isplitl [Hi]; · iexact Hi
    isplitl [H5a]; · iexact H5a
    iexact Hva12
  iintro Hfa12
  iapply (wait_step (tl d i)) $$ [Hfa12 HO]
  · isplitl [Hfa12]; · iexact Hfa12
    isplitl [HO]; · iexact HO
    iexact Hmw
  iintro ⟨⟨H5a, Hi⟩, Hva12, HO⟩
  ihave Hi := Hib $$ Hi
  iapply (gather_step (src := arg2.slice (Rect.unit (s := S100000x128) ![0, 0] S100000x128.size inb_S100000x128_S100000x128_0_0) (fun _ => rfl)) (dst := arg6) (offs := arg5.slice (Rect.unit (s := S1280) ![0] S320.size inb_S1280_S320_0) (fun _ => rfl)) (fo := g0) d i hw0) $$ [HtL H6 H5a Hvarg8]
  · isplitl [HtL]; · iexact HtL
    isplitl [H6]; · iexact H6
    isplitl [H5a]; · iexact H5a
    iexact Hvarg8
  iintro Hfarg8
  ihave Hi' := (lend (ℓ := arg3.view.loc (tl d i)) (Finset.subset_univ (arg3.view.slice (Rect.unit (s := S40960) (k0_off2 i) S960.size (k0_off2_inb i))).set) q3 fi) $$ Hi
  icases Hi' with ⟨Hi, Hib⟩
  iapply (dma_step (src := arg3.slice (Rect.unit (s := S40960) (k0_off2 i) S960.size (k0_off2_inb i)) (fun _ => rfl)) (dst := arg5.slice (Rect.unit (s := S1280) ![320] S960.size inb_S1280_S960_320) (fun _ => rfl)) (tl d i) (by decide : 0 < S960.numel) hB) $$ [Hi H5r Hva13]
  · isplitl [Hi]; · iexact Hi
    isplitl [H5r]; · iexact H5r
    iexact Hva13
  iintro Hfa13
  iapply (wait_step (tl d i)) $$ [Hfa13 HO]
  · isplitl [Hfa13]; · iexact Hfa13
    isplitl [HO]; · iexact HO
    iexact Hmw
  iintro ⟨⟨H5r, Hi⟩, Hva13, HO⟩
  ihave Hi := Hib $$ Hi
  ihave H5r' := (pointsTo_split_subset (ℓ := arg5.view.loc (tl d i)) h1).1 $$ H5r
  icases H5r' with ⟨H5b, H5r⟩
  iapply (gather_step (src := arg2.slice (Rect.unit (s := S100000x128) ![0, 0] S100000x128.size inb_S100000x128_S100000x128_0_0) (fun _ => rfl)) (dst := arg7) (offs := arg5.slice (Rect.unit (s := S1280) ![320] S320.size inb_S1280_S320_320) (fun _ => rfl)) (fo := g1) d i hw1) $$ [HtR H7 H5b Hvarg9]
  · isplitl [HtR]; · iexact HtR
    isplitl [H7]; · iexact H7
    isplitl [H5b]; · iexact H5b
    iexact Hvarg9
  iintro Hfarg9
  iapply (wait_step (tl d i)) $$ [Hfarg8 HO]
  · isplitl [Hfarg8]; · iexact Hfarg8
    isplitl [HO]; · iexact HO
    iexact Hmw
  iintro ⟨⟨H6, HtL, H5a⟩, Hvarg8, HO⟩
  iapply (dma_step (src := arg6) (dst := arg4.slice (oRect i 0) (fun _ => rfl)) (tl d i) (by decide) (Finset.Subset.refl (arg4.view.slice (oRect i 0)).set)) $$ [H6 Ho0 Hvarg10]
  · isplitl [H6]; · iexact H6
    isplitl [Ho0]; · iexact Ho0
    iexact Hvarg10
  iintro Hfarg10
  iapply (wait_step (tl d i)) $$ [Hfarg10 HO]
  · isplitl [Hfarg10]; · iexact Hfarg10
    isplitl [HO]; · iexact HO
    iexact Hmw
  iintro ⟨⟨Ho0, H6⟩, Hvarg10, HO⟩
  ihave H5r' := (pointsTo_split_subset (ℓ := arg5.view.loc (tl d i)) h2).1 $$ H5r
  icases H5r' with ⟨H5c, H5r⟩
  iapply (gather_step (src := arg2.slice (Rect.unit (s := S100000x128) ![0, 0] S100000x128.size inb_S100000x128_S100000x128_0_0) (fun _ => rfl)) (dst := arg6) (offs := arg5.slice (Rect.unit (s := S1280) ![640] S320.size inb_S1280_S320_640) (fun _ => rfl)) (fo := g1) d i hw2) $$ [HtL H6 H5c Hvarg8]
  · isplitl [HtL]; · iexact HtL
    isplitl [H6]; · iexact H6
    isplitl [H5c]; · iexact H5c
    iexact Hvarg8
  iintro Hfarg8
  iapply (wait_step (tl d i)) $$ [Hfarg9 HO]
  · isplitl [Hfarg9]; · iexact Hfarg9
    isplitl [HO]; · iexact HO
    iexact Hmw
  iintro ⟨⟨H7, HtR, H5b⟩, Hvarg9, HO⟩
  iapply (dma_step (src := arg7) (dst := arg4.slice (oRect i 1) (fun _ => rfl)) (tl d i) (by decide) (Finset.Subset.refl (arg4.view.slice (oRect i 1)).set)) $$ [H7 Ho1 Hvarg11]
  · isplitl [H7]; · iexact H7
    isplitl [Ho1]; · iexact Ho1
    iexact Hvarg11
  iintro Hfarg11
  iapply (wait_step (tl d i)) $$ [Hfarg11 HO]
  · isplitl [Hfarg11]; · iexact Hfarg11
    isplitl [HO]; · iexact HO
    iexact Hmw
  iintro ⟨⟨Ho1, H7⟩, Hvarg11, HO⟩
  ihave H5r' := (pointsTo_split_subset (ℓ := arg5.view.loc (tl d i)) h3).1 $$ H5r
  icases H5r' with ⟨H5d, H5r⟩
  iapply (gather_step (src := arg2.slice (Rect.unit (s := S100000x128) ![0, 0] S100000x128.size inb_S100000x128_S100000x128_0_0) (fun _ => rfl)) (dst := arg7) (offs := arg5.slice (Rect.unit (s := S1280) ![960] S320.size inb_S1280_S320_960) (fun _ => rfl)) (fo := g1) d i hw3) $$ [HtR H7 H5d Hvarg9]
  · isplitl [HtR]; · iexact HtR
    isplitl [H7]; · iexact H7
    isplitl [H5d]; · iexact H5d
    iexact Hvarg9
  iintro Hfarg9
  iapply (wait_step (tl d i)) $$ [Hfarg8 HO]
  · isplitl [Hfarg8]; · iexact Hfarg8
    isplitl [HO]; · iexact HO
    iexact Hmw
  iintro ⟨⟨H6, HtL, H5c⟩, Hvarg8, HO⟩
  iapply (dma_step (src := arg6) (dst := arg4.slice (oRect i 2) (fun _ => rfl)) (tl d i) (by decide) (Finset.Subset.refl (arg4.view.slice (oRect i 2)).set)) $$ [H6 Ho2 Hvarg10]
  · isplitl [H6]; · iexact H6
    isplitl [Ho2]; · iexact Ho2
    iexact Hvarg10
  iintro Hfarg10
  iapply (wait_step (tl d i)) $$ [Hfarg9 HO]
  · isplitl [Hfarg9]; · iexact Hfarg9
    isplitl [HO]; · iexact HO
    iexact Hmw
  iintro ⟨⟨H7, HtR, H5d⟩, Hvarg9, HO⟩
  iapply (dma_step (src := arg7) (dst := arg4.slice (oRect i 3) (fun _ => rfl)) (tl d i) (by decide) (Finset.Subset.refl (arg4.view.slice (oRect i 3)).set)) $$ [H7 Ho3 Hvarg11]
  · isplitl [H7]; · iexact H7
    isplitl [Ho3]; · iexact Ho3
    iexact Hvarg11
  iintro Hfarg11
  iapply (wait_step (tl d i)) $$ [Hfarg10 HO]
  · isplitl [Hfarg10]; · iexact Hfarg10
    isplitl [HO]; · iexact HO
    iexact Hmw
  iintro ⟨⟨Ho2, H6⟩, Hvarg10, HO⟩
  iapply (wait_step (tl d i)) $$ [Hfarg11 HO]
  · isplitl [Hfarg11]; · iexact Hfarg11
    isplitl [HO]; · iexact HO
    iexact Hmw
  iintro ⟨⟨Ho3, H7⟩, Hvarg11, HO⟩
  ihave Ho0 := (Entails.of_eq (pointsTo_congr (write_slice_agrees arg4.view (oRect i 0) fo _ (gath (arg2.view.read (Elt F) Tb) (arg3.view.read (Elt F) fi))
    fun x => (congrFun (View.read_write_univ (v := arg6.view) _ _) x).trans (round_value i 0 _ _ htb _ _ hr0 hw0 x)))) $$ Ho0
  ihave Ho1 := (Entails.of_eq (pointsTo_congr (write_slice_agrees arg4.view (oRect i 1) fo _ (gath (arg2.view.read (Elt F) Tb) (arg3.view.read (Elt F) fi))
    fun x => (congrFun (View.read_write_univ (v := arg7.view) _ _) x).trans (round_value i 1 _ _ htb _ _ (hrk 1 (by decide) inb_S1280_S320_320) hw1 x)))) $$ Ho1
  ihave Ho2 := (Entails.of_eq (pointsTo_congr (write_slice_agrees arg4.view (oRect i 2) fo _ (gath (arg2.view.read (Elt F) Tb) (arg3.view.read (Elt F) fi))
    fun x => (congrFun (View.read_write_univ (v := arg6.view) _ _) x).trans (round_value i 2 _ _ htb _ _ (hrk 2 (by decide) inb_S1280_S320_640) hw2 x)))) $$ Ho2
  ihave Ho3 := (Entails.of_eq (pointsTo_congr (write_slice_agrees arg4.view (oRect i 3) fo _ (gath (arg2.view.read (Elt F) Tb) (arg3.view.read (Elt F) fi))
    fun x => (congrFun (View.read_write_univ (v := arg7.view) _ _) x).trans (round_value i 3 _ _ htb _ _ (hrk 3 (by decide) inb_S1280_S320_960) hw3 x)))) $$ Ho3
  -- what came back: the shares and the list's parts joined, the output's blocks at the gather
  sl_step
  isplitl [HtL HtLb HtR HtRb Hi Ho0 Ho1 Ho2 Ho3]
  · isplitl [HtL HtLb HtR HtRb]
    · iapply (pointsTo_share (PosShare.mem_left_op_right q2)).2
      isplitl [HtL HtLb]
      · iapply HtLb; iexact HtL
      · iapply HtRb; iexact HtR
    isplitl [Hi]; · iexact Hi
    isplitl [Ho0]; · iexact Ho0
    isplitl [Ho1]; · iexact Ho1
    isplitl [Ho2]; · iexact Ho2
    iexact Ho3
  isplitl [H5a H5b H5c H5d H5r H6 H7]
  · isplitl [H5a H5b H5c H5d H5r]
    · iexists _
      iapply (Entails.of_eq (congrArg (fun I => (arg5.view.loc (tl d i) ↦[I]{fullShare} _ : sProp 𝕄)) (Finset.union_sdiff_of_subset (Finset.subset_univ A0))))
      iapply (pointsTo_join (ℓ := arg5.view.loc (tl d i)) (q := fullShare) (f := g0) (g := g1) (Finset.disjoint_sdiff (s := A0) (t := Finset.univ)))
      isplitl [H5a]; · iexact H5a
      iapply (pointsTo_split_subset (ℓ := arg5.view.loc (tl d i)) h1).2
      isplitl [H5b]; · iexact H5b
      iapply (pointsTo_split_subset (ℓ := arg5.view.loc (tl d i)) h2).2
      isplitl [H5c]; · iexact H5c
      iapply (pointsTo_split_subset (ℓ := arg5.view.loc (tl d i)) h3).2
      isplitl [H5d]; · iexact H5d
      iexact H5r
    isplitl [H6]
    · iexists _; rw [← hs6]; iexact H6
    · iexists _; rw [← hs7]; iexact H7
  isplitl [Hvarg8 Hvarg9 Hvarg10 Hvarg11 Hva12 Hva13]
  · isplitl [Hvarg8]; · iexact Hvarg8
    isplitl [Hvarg9]; · iexact Hvarg9
    isplitl [Hvarg10]; · iexact Hvarg10
    isplitl [Hvarg11]; · iexact Hvarg11
    isplitl [Hva12]; · iexact Hva12
    iexact Hva13
  iexists _; isplitr
  swap; · iexact HO
  ipureintro; intro p hp
  iterate 10 (rcases Finset.mem_insert.mp hp with hp | hp; · exact .inr (hp ▸ rfl))
  exact .inl hp

end Cert.Proof

end
-- ==== Proof.Calls.lean ====
/-
  The four SparseCore calls as the launch theorem asks of them: what each call's operands are, how they split over the
  thirty-two tiles and come back, and each tile's obligation from the one task lemma.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

/-- The tile of SparseCore `c` and vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## Splitting an array over the tiles -/

/-- The share of a whole array that tile `(c, s)` reads with: a sixteenth of a half. -/
def tileShare (i : grid0.Coords) : PosShare TreeShare :=
  pieceOf (pieceOf fullShare 2 (by decide) (i 0)) 16 (by decide) (i 1)

omit [FloatOps F] in
/-- An array held outright is held by the tiles at their shares. -/
theorem shares_tiles {ℓ : Loc nD τ sig} (f : Buf (Elt F) ℓ) :
    (ℓ ↦{fullShare} f : sProp 𝕄)
      = bigSep Finset.univ fun c : Fin 2 => bigSep Finset.univ fun s : Fin 16 => ℓ ↦{tileShare (coordsV c s)} f := by
  rw [pointsTo_piecesOf Finset.univ f (by decide : 0 < 2) fullShare]
  refine bigSep_congr fun c _ => ?_
  rw [pointsTo_piecesOf Finset.univ f (by decide : 0 < 16) (pieceOf fullShare 2 (by decide) c)]
  rfl

/-- Which rows a tile's round writes. -/
theorem mem_oRect (i : grid0.Coords) (k : Fin 4) (j : S40960x128.Idx) :
    j ∈ (oRect i k).set ↔ 2560 * (i 1).val + 1280 * (i 0).val + 320 * k.val ≤ (j 0).val
      ∧ (j 0).val < 2560 * (i 1).val + 1280 * (i 0).val + 320 * k.val + 320 := by
  rw [Rect.mem_set_unit]
  have h1 : (j 1).val < 128 := (j 1).isLt
  constructor
  · intro h
    have := h 0
    rw [k0_off3_eq] at this
    exact this
  · intro h a
    rw [k0_off3_eq]
    match a with
    | 0 => exact h
    | 1 => exact ⟨Nat.zero_le _, by simpa using h1⟩

omit [FloatOps F] in
/-- An array of 40960 rows held outright is held by the tiles at their four blocks each. -/
theorem blocks_tiles {ℓ : Loc nD τ sig} (v : View sig .scVector .hbm S40960x128 .f32) (hv : v.set = Finset.univ)
    (B : grid0.Coords → Fin 4 → Finset (Idx ℓ)) (e : v.ty.Idx ≃ Idx ℓ) (hB : ∀ i k, B i k = (v.slice (oRect i k)).set.map e.toEmbedding)
    (f : Buf (Elt F) ℓ) :
    (ℓ ↦{fullShare} f : sProp 𝕄)
      = bigSep Finset.univ fun c : Fin 2 => bigSep Finset.univ fun s : Fin 16 =>
          iprop((ℓ ↦[B (coordsV c s) 0]{fullShare} f) ∗ (ℓ ↦[B (coordsV c s) 1]{fullShare} f)
            ∗ (ℓ ↦[B (coordsV c s) 2]{fullShare} f) ∗ (ℓ ↦[B (coordsV c s) 3]{fullShare} f)) := by
  have hdis : ∀ p ∈ (Finset.univ : Finset (Fin 2 × Fin 16 × Fin 4)), ∀ p' ∈ (Finset.univ : Finset (Fin 2 × Fin 16 × Fin 4)), p ≠ p' →
      Disjoint (B (coordsV p.1 p.2.1) p.2.2) (B (coordsV p'.1 p'.2.1) p'.2.2) := by
    rintro ⟨c, s, k⟩ - ⟨c', s', k'⟩ - hne
    rw [hB, hB, Finset.disjoint_map, View.set_slice, View.set_slice, Finset.disjoint_map, Finset.disjoint_left]
    intro j hj hj'
    rw [mem_oRect] at hj hj'
    refine hne ?_
    change 2560 * s.val + 1280 * c.val + 320 * k.val ≤ _ ∧ _ < 2560 * s.val + 1280 * c.val + 320 * k.val + 320 at hj
    change 2560 * s'.val + 1280 * c'.val + 320 * k'.val ≤ _ ∧ _ < 2560 * s'.val + 1280 * c'.val + 320 * k'.val + 320 at hj'
    have hc : c = c' := Fin.ext (by omega)
    have hs : s = s' := Fin.ext (by omega)
    have hk : k = k' := Fin.ext (by omega)
    rw [hc, hs, hk]
  have hcov : (Finset.univ : Finset (Fin 2 × Fin 16 × Fin 4)).biUnion (fun p => B (coordsV p.1 p.2.1) p.2.2) = Finset.univ := by
    refine Finset.eq_univ_iff_forall.mpr fun x => ?_
    have hx : e.symm x ∈ v.set := by rw [hv]; exact Finset.mem_univ _
    obtain ⟨j, -, hj⟩ := Finset.mem_map.mp hx
    have hlt : (j 0).val < 40960 := (j 0).isLt
    refine Finset.mem_biUnion.mpr ⟨(⟨(j 0).val % 2560 / 1280, by omega⟩, ⟨(j 0).val / 2560, by omega⟩, ⟨(j 0).val % 1280 / 320, by omega⟩),
      Finset.mem_univ _, ?_⟩
    rw [hB, View.set_slice]
    refine Finset.mem_map.mpr ⟨e.symm x, Finset.mem_map.mpr ⟨j, ?_, hj⟩, by simp⟩
    rw [mem_oRect]
    change 2560 * ((j 0).val / 2560) + 1280 * ((j 0).val % 2560 / 1280) + 320 * ((j 0).val % 1280 / 320) ≤ _
      ∧ _ < 2560 * ((j 0).val / 2560) + 1280 * ((j 0).val % 2560 / 1280) + 320 * ((j 0).val % 1280 / 320) + 320
    omega
  rw [show (ℓ ↦{fullShare} f : sProp 𝕄) = ℓ ↦[(Finset.univ : Finset (Fin 2 × Fin 16 × Fin 4)).biUnion fun p => B (coordsV p.1 p.2.1) p.2.2]{fullShare} f by
    rw [hcov], pointsTo_biUnion _ _ hdis, bigSep_univ_prod]
  refine bigSep_congr fun c _ => ?_
  rw [bigSep_univ_prod]
  refine bigSep_congr fun s _ => ?_
  rw [show (Finset.univ : Finset (Fin 4)) = {0, 1, 2, 3} by decide,
    SparseCore.bigSep_insert' (by decide), SparseCore.bigSep_insert' (by decide), SparseCore.bigSep_insert' (by decide), bigSep_singleton]

/-! ## What the handshakes carry -/

abbrev tableM : Memref sig .scVector .hbm S100000x128 .f32 := Memref.whole main_arg1_scv

variable (Tb : Dev nD → S100000x128.Idx → Elt F .f32) (ix : Fin 4 → Dev nD → S40960.Idx → BitVec 32)

/-- What one tile of call `q` holds, the call's output at `f`: its share of the table at `Tb`, its share of the call's index
    list at `ix q`, and its blocks of the output. -/
def tileP (q : Fin 4) (d : Dev nD) (i : grid0.Coords) (f : S40960x128.Idx → Elt F .f32) : sProp 𝕄 :=
  match q with
  | 0 => taskIO d i tableM (Memref.whole main_v12_scv) (Memref.whole main_v13_scv) (tileShare i) (tileShare i) (Tb d) (ix 0 d) f
  | 1 => taskIO d i tableM (Memref.whole main_v18_scv) (Memref.whole main_v19_scv) (tileShare i) (tileShare i) (Tb d) (ix 1 d) f
  | 2 => taskIO d i tableM (Memref.whole main_v24_scv) (Memref.whole main_v25_scv) (tileShare i) (tileShare i) (Tb d) (ix 2 d) f
  | 3 => taskIO d i tableM (Memref.whole main_v30_scv) (Memref.whole main_v31_scv) (tileShare i) (tileShare i) (Tb d) (ix 3 d) f

/-- A thread's buffer held outright at `f`. -/
abbrev held (thr : Thread nD τ) (b : Ref sig thr.2.kind) (f : Buf (Elt F) (thr.loc b)) : sProp 𝕄 := thr.loc b ↦{fullShare} f

/-- What the TensorCore holds of call `q`'s operands, the output at `f`: the table, the index list, the output, whole. -/
def callP (q : Fin 4) (d : Dev nD) (f : S40960x128.Idx → Elt F .f32) : sProp 𝕄 :=
  match q with
  | 0 => iprop(held (SparseCore.T d) main_arg1 (Tb d) ∗ held (SparseCore.T d) main_v12 (ix 0 d) ∗ held (SparseCore.T d) main_v13 f)
  | 1 => iprop(held (SparseCore.T d) main_arg1 (Tb d) ∗ held (SparseCore.T d) main_v18 (ix 1 d) ∗ held (SparseCore.T d) main_v19 f)
  | 2 => iprop(held (SparseCore.T d) main_arg1 (Tb d) ∗ held (SparseCore.T d) main_v24 (ix 2 d) ∗ held (SparseCore.T d) main_v25 f)
  | 3 => iprop(held (SparseCore.T d) main_arg1 (Tb d) ∗ held (SparseCore.T d) main_v30 (ix 3 d) ∗ held (SparseCore.T d) main_v31 f)

omit [FloatOps F] in
/-- Three arrays held outright are held by the tiles: two at shares, one at blocks. -/
theorem split_tiles {ℓt ℓi ℓo : Loc nD τ sig} (v : View sig .scVector .hbm S40960x128 .f32) (hv : v.set = Finset.univ)
    (B : grid0.Coords → Fin 4 → Finset (Idx ℓo)) (e : v.ty.Idx ≃ Idx ℓo) (hB : ∀ i k, B i k = (v.slice (oRect i k)).set.map e.toEmbedding)
    (ft : Buf (Elt F) ℓt) (fi : Buf (Elt F) ℓi) (fo : Buf (Elt F) ℓo) :
    (iprop((ℓt ↦{fullShare} ft) ∗ (ℓi ↦{fullShare} fi) ∗ (ℓo ↦{fullShare} fo)) : sProp 𝕄)
      = bigSep Finset.univ fun c : Fin 2 => bigSep Finset.univ fun s : Fin 16 =>
          iprop((ℓt ↦{tileShare (coordsV c s)} ft) ∗ (ℓi ↦{tileShare (coordsV c s)} fi)
            ∗ (ℓo ↦[B (coordsV c s) 0]{fullShare} fo) ∗ (ℓo ↦[B (coordsV c s) 1]{fullShare} fo)
            ∗ (ℓo ↦[B (coordsV c s) 2]{fullShare} fo) ∗ (ℓo ↦[B (coordsV c s) 3]{fullShare} fo)) := by
  rw [shares_tiles ft, shares_tiles fi, blocks_tiles v hv B e hB fo, ← bigSep_sep', ← bigSep_sep']
  refine bigSep_congr fun c _ => ?_
  rw [← bigSep_sep', ← bigSep_sep']

omit [FloatOps F] in
/-- A call's operands are its tiles'. -/
theorem callP_eq (q : Fin 4) (d : Dev nD) (f : S40960x128.Idx → Elt F .f32) :
    callP Tb ix q d f = bigSep Finset.univ fun c : Fin 2 => bigSep Finset.univ fun s : Fin 16 => tileP Tb ix q d (coordsV c s) f :=
  match q with
  | 0 => split_tiles (ℓt := (SparseCore.T d).loc main_arg1) (ℓi := (SparseCore.T d).loc main_v12) (ℓo := (SparseCore.T d).loc main_v13)
      (Memref.whole main_v13_scv : Memref sig .scVector .hbm S40960x128 .f32).view (Memref.isWhole_whole _).set_eq_univ
      (fun i k => ((Memref.whole main_v13_scv : Memref sig .scVector .hbm S40960x128 .f32).view.slice (oRect i k)).set)
      (Equiv.refl _) (fun _ _ => Finset.map_refl.symm) (Tb d) (ix 0 d) f
  | 1 => split_tiles (ℓt := (SparseCore.T d).loc main_arg1) (ℓi := (SparseCore.T d).loc main_v18) (ℓo := (SparseCore.T d).loc main_v19)
      (Memref.whole main_v19_scv : Memref sig .scVector .hbm S40960x128 .f32).view (Memref.isWhole_whole _).set_eq_univ
      (fun i k => ((Memref.whole main_v19_scv : Memref sig .scVector .hbm S40960x128 .f32).view.slice (oRect i k)).set)
      (Equiv.refl _) (fun _ _ => Finset.map_refl.symm) (Tb d) (ix 1 d) f
  | 2 => split_tiles (ℓt := (SparseCore.T d).loc main_arg1) (ℓi := (SparseCore.T d).loc main_v24) (ℓo := (SparseCore.T d).loc main_v25)
      (Memref.whole main_v25_scv : Memref sig .scVector .hbm S40960x128 .f32).view (Memref.isWhole_whole _).set_eq_univ
      (fun i k => ((Memref.whole main_v25_scv : Memref sig .scVector .hbm S40960x128 .f32).view.slice (oRect i k)).set)
      (Equiv.refl _) (fun _ _ => Finset.map_refl.symm) (Tb d) (ix 2 d) f
  | 3 => split_tiles (ℓt := (SparseCore.T d).loc main_arg1) (ℓi := (SparseCore.T d).loc main_v30) (ℓo := (SparseCore.T d).loc main_v31)
      (Memref.whole main_v31_scv : Memref sig .scVector .hbm S40960x128 .f32).view (Memref.isWhole_whole _).set_eq_univ
      (fun i k => ((Memref.whole main_v31_scv : Memref sig .scVector .hbm S40960x128 .f32).view.slice (oRect i k)).set)
      (Equiv.refl _) (fun _ _ => Finset.map_refl.symm) (Tb d) (ix 3 d) f

instance tileP_storable (q : Fin 4) (d : Dev nD) (i : grid0.Coords) (f : S40960x128.Idx → Elt F .f32) :
    BI.Storable (upEmb : UEmb _ 𝕄) (tileP Tb ix q d i f) :=
  match q with
  | 0 => by unfold tileP; infer_instance
  | 1 => by unfold tileP; infer_instance
  | 2 => by unfold tileP; infer_instance
  | 3 => by unfold tileP; infer_instance

/-- The tile of call `q`'s core `c` and subcore `s`. -/
abbrev tileAt (q : Fin 4) (c : Fin ((K (F := F)).nCore q)) (s : Fin ((K (F := F)).nSub q)) : grid0.Coords :=
  coordsV (Fin.cast (nCore_eq (F := F) q) c) (Fin.cast (nSub_eq (F := F) q) s)

variable (o₀ : Fin 4 → Dev nD → S40960x128.Idx → Elt F .f32)

/-- Each call takes its operands out to its tiles and brings them back, its output holding the rows its list names. -/
def P : (K (F := F)).Pay (nD := nD) (Val := Elt F) (Name := ℕ) (U := UU) where
  st := fun q d c => bigSep Finset.univ fun s : Fin ((K (F := F)).nSub q) => tileP Tb ix q d (tileAt (F := F) q c s) (o₀ q d)
  dn := fun q d c => bigSep Finset.univ fun s : Fin ((K (F := F)).nSub q) => tileP Tb ix q d (tileAt (F := F) q c s) (gath (Tb d) (ix q d))
  go := fun q d c s => tileP Tb ix q d (tileAt (F := F) q c s) (o₀ q d)
  td := fun q d c s => tileP Tb ix q d (tileAt (F := F) q c s) (gath (Tb d) (ix q d))
  x := fun _ _ => iprop(emp)

instance P_storable : (P Tb ix o₀).IsStorable where
  st q d c := (inferInstance : BI.Storable (upEmb : UEmb _ 𝕄)
    (bigSep Finset.univ fun s : Fin ((K (F := F)).nSub q) => tileP Tb ix q d (tileAt (F := F) q c s) (o₀ q d)))
  dn q d c := (inferInstance : BI.Storable (upEmb : UEmb _ 𝕄)
    (bigSep Finset.univ fun s : Fin ((K (F := F)).nSub q) => tileP Tb ix q d (tileAt (F := F) q c s) (gath (Tb d) (ix q d))))
  go q d c s := tileP_storable Tb ix q d (tileAt (F := F) q c s) (o₀ q d)
  td q d c s := tileP_storable Tb ix q d (tileAt (F := F) q c s) (gath (Tb d) (ix q d))

/-- A family over call `q`'s cores is one over two cores, its subcores sixteen. -/
theorem cores_eq (q : Fin 4) (Φ : grid0.Coords → sProp 𝕄) :
    (bigSep Finset.univ fun c : Fin ((K (F := F)).nCore q) => bigSep Finset.univ fun s : Fin ((K (F := F)).nSub q) => Φ (tileAt (F := F) q c s))
      = bigSep Finset.univ fun c : Fin 2 => bigSep Finset.univ fun s : Fin 16 => Φ (coordsV c s) :=
  match q with | 0 => rfl | 1 => rfl | 2 => rfl | 3 => rfl

/-- What a call takes is its operands whole, -/
theorem st_eq (q : Fin 4) (d : Dev nD) :
    (bigSep Finset.univ fun c : Fin ((K (F := F)).nCore q) => (P Tb ix o₀).st q d c) = callP Tb ix q d (o₀ q d) := by
  rw [callP_eq]; exact cores_eq q fun i => tileP Tb ix q d i (o₀ q d)

/-- and what it gives back is them whole, the output gathered. -/
theorem dn_eq (q : Fin 4) (d : Dev nD) :
    (bigSep Finset.univ fun c : Fin ((K (F := F)).nCore q) => (P Tb ix o₀).dn q d c) = callP Tb ix q d (gath (Tb d) (ix q d)) := by
  rw [callP_eq]; exact cores_eq q fun i => tileP Tb ix q d i (gath (Tb d) (ix q d))

/-- A core's operands are its tiles'. -/
theorem vecSplit (q : Fin 4) : (K (F := F)).VecSplit' (P Tb ix o₀) q := by
  intro d c
  rw [show (P Tb ix o₀).st q d c = bigSep Finset.univ fun i : Fin ((K (F := F)).nSub q) => (P Tb ix o₀).go q d c i from rfl,
    show (P Tb ix o₀).dn q d c = bigSep Finset.univ fun i : Fin ((K (F := F)).nSub q) => (P Tb ix o₀).td q d c i from rfl]
  iintro H; imodintro
  isplitl [H]; · iexact H
  iintro H; iexact H

/-! ## A tile's own storage -/

omit [FloatOps F] in
/-- Six of a vector subcore's own DMA semaphores, at zero, and the rest. -/
theorem ownSems0_six (d : Dev nD) (c : Fin τ.nSC) (j : Fin τ.nSub) (sm : Fin 6 → DmaSem sig) (hinj : Function.Injective sm) :
    (ownSems0 (V d c j) : sProp 𝕄)
      = iprop((semVal (V d c j, .dma (sm 0)) 0 ∗ semVal (V d c j, .dma (sm 1)) 0 ∗ semVal (V d c j, .dma (sm 2)) 0
            ∗ semVal (V d c j, .dma (sm 3)) 0 ∗ semVal (V d c j, .dma (sm 4)) 0 ∗ semVal (V d c j, .dma (sm 5)) 0)
          ∗ bigSep (ownCells (V d c j) \ Finset.univ.image fun k => ((V d c j, .dma (sm k)) : GSem nD τ sig)) fun g => semVal g 0) := by
  unfold SparseCore.Cfg.ownSems0
  rw [SparseCore.bigSep_sdiff_split' (t := Finset.univ.image fun k => ((V d c j, .dma (sm k)) : GSem nD τ sig))
      (Finset.image_subset_iff.mpr fun k _ => mem_ownCells.mpr
        ⟨rfl, (show ∀ s : DmaSem sig, (SemLoc.dma s : SemLoc sig).isScoped .scVector = true by decide) _⟩),
    SparseCore.bigSep_image_of_injOn (fun a _ b _ h => hinj (by
      have := congrArg (fun g : GSem nD τ sig => g.2) h
      simpa only [SemLoc.dma.injEq] using this)),
    show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Three of a vector subcore's own buffers, at some contents, and the rest. -/
theorem ownBufs_three (d : Dev nD) (c : Fin τ.nSC) (j : Fin τ.nSub) (b₀ b₁ b₂ : Ref sig .scVector)
    (h₀ : (Proc.scVector (τ := τ) c j).devRef b₀ ∈ ownRefs (Proc.scVector (τ := τ) c j))
    (h₁ : (Proc.scVector (τ := τ) c j).devRef b₁ ∈ ownRefs (Proc.scVector (τ := τ) c j))
    (h₂ : (Proc.scVector (τ := τ) c j).devRef b₂ ∈ ownRefs (Proc.scVector (τ := τ) c j))
    (h01 : b₁ ≠ b₀) (h02 : b₂ ≠ b₀) (h12 : b₂ ≠ b₁) :
    (ownBufs (V d c j) : sProp 𝕄)
      = iprop((∃ f, (V d c j).loc b₀ ↦{fullShare} f) ∗ (∃ f, (V d c j).loc b₁ ↦{fullShare} f) ∗ (∃ f, (V d c j).loc b₂ ↦{fullShare} f)
          ∗ bigSep ((((ownRefs (τ := τ) (.scVector c j)).erase ((Proc.scVector c j).devRef b₀)).erase
              ((Proc.scVector c j).devRef b₁)).erase ((Proc.scVector c j).devRef b₂))
              fun b => iprop(∃ f, ((d, b) : Loc nD τ sig) ↦{fullShare} f)) := by
  unfold SparseCore.Cfg.ownBufs
  refine (SparseCore.bigSep_erase' h₀).trans ?_
  rw [SparseCore.bigSep_erase' (Finset.mem_erase.mpr ⟨fun e => h01 (Proc.devRef_injective _ e), h₁⟩),
    SparseCore.bigSep_erase' (Finset.mem_erase.mpr ⟨fun e => h12 (Proc.devRef_injective _ e),
      Finset.mem_erase.mpr ⟨fun e => h02 (Proc.devRef_injective _ e), h₂⟩⟩)]

/-- A task that runs from its operands, three scratch buffers and six semaphores runs from all of its subcore's storage. -/
theorem from_storage (d : Dev nD) (c : Fin τ.nSC) (j : Fin τ.nSub) (b₀ b₁ b₂ : Ref sig .scVector) (sm : Fin 6 → DmaSem sig)
    (h₀ : (Proc.scVector (τ := τ) c j).devRef b₀ ∈ ownRefs (Proc.scVector (τ := τ) c j))
    (h₁ : (Proc.scVector (τ := τ) c j).devRef b₁ ∈ ownRefs (Proc.scVector (τ := τ) c j))
    (h₂ : (Proc.scVector (τ := τ) c j).devRef b₂ ∈ ownRefs (Proc.scVector (τ := τ) c j))
    (h01 : b₁ ≠ b₀) (h02 : b₂ ≠ b₀) (h12 : b₂ ≠ b₁) (hinj : Function.Injective sm) (q : Fin 4)
    (O : CellTallies nD τ sig (HIx 4)) (W : Waits sig (HIx 4)) (hO : ∀ g, O g none = 0) (IO IO' : sProp 𝕄)
    (e : Prog (TpuEff nD τ sig (Elt F) Λ₀ (.scVector c j)) PUnit)
    (hrun : iprop(Transfers.MayWaits (V d c j) (default : HIx 4) O ∗ IO
        ∗ ((∃ f, (V d c j).loc b₀ ↦{fullShare} f) ∗ (∃ f, (V d c j).loc b₁ ↦{fullShare} f) ∗ (∃ f, (V d c j).loc b₂ ↦{fullShare} f))
        ∗ (semVal (V d c j, .dma (sm 0)) 0 ∗ semVal (V d c j, .dma (sm 1)) 0 ∗ semVal (V d c j, .dma (sm 2)) 0
            ∗ semVal (V d c j, .dma (sm 3)) 0 ∗ semVal (V d c j, .dma (sm 4)) 0 ∗ semVal (V d c j, .dma (sm 5)) 0)
        ∗ owes (V d c j) O W)
      ⊢ wp frame (wpE (defs₀ (F := F)) 𝒱₀ (V d c j) none) Set.univ e fun _ => iprop(IO'
        ∗ ((∃ f, (V d c j).loc b₀ ↦{fullShare} f) ∗ (∃ f, (V d c j).loc b₁ ↦{fullShare} f) ∗ (∃ f, (V d c j).loc b₂ ↦{fullShare} f))
        ∗ (semVal (V d c j, .dma (sm 0)) 0 ∗ semVal (V d c j, .dma (sm 1)) 0 ∗ semVal (V d c j, .dma (sm 2)) 0
            ∗ semVal (V d c j, .dma (sm 3)) 0 ∗ semVal (V d c j, .dma (sm 4)) 0 ∗ semVal (V d c j, .dma (sm 5)) 0)
        ∗ ∃ W', ⌜∀ p ∈ W', p ∈ W ∨ p.2 = none⌝ ∗ owes (V d c j) O W')) :
    iprop(levAts (K (F := F)).L (K (F := F)).lev ∗ emp ∗ IO ∗ scopedBufs (V d c j) ∗ scopedSems0 (V d c j) ∗ owes (V d c j) O W)
      ⊢ wp frame (wpE (defs₀ (F := F)) 𝒱₀ (V d c j) none) Set.univ e fun _ => iprop(IO' ∗ scopedBufs (V d c j) ∗ scopedSems0 (V d c j)
        ∗ ∃ W', ⌜∀ p ∈ W', p ∈ W ∨ p.2 = none ∨ p.2 = some q⌝ ∗ owes (V d c j) O W') := by
  rw [(K (F := F)).scopedBufs_V facts d c j, SparseCore.Cfg.scopedSems0_V (Val := Elt F) d c j, ownSems0_six d c j sm hinj,
    ownBufs_three d c j b₀ b₁ b₂ h₀ h₁ h₂ h01 h02 h12]
  iintro ⟨#Hlv, -, HIO, ⟨H0, H1, H2, Hbufs⟩, ⟨HC, Hsems⟩, HO⟩
  ihave Hmw := (show levAts (K (F := F)).L (K (F := F)).lev ⊢ Transfers.MayWaits (V d c j) (default : HIx 4) O from
    (K (F := F)).mayWaits_none (thr := V d c j) hO) $$ Hlv
  iapply (wp_wand_r Idealize.ShloMosaic.frame (wpE (defs₀ (F := F)) 𝒱₀ (V d c j) none) Set.univ)
  isplitl [HIO H0 H1 H2 HC HO]
  · iapply hrun
    isplitr; · iexact Hmw
    isplitl [HIO]; · iexact HIO
    isplitl [H0 H1 H2]
    · isplitl [H0]; · iexact H0
      isplitl [H1]; · iexact H1
      iexact H2
    isplitl [HC]; · iexact HC
    iexact HO
  iintro %_ ⟨HIO, ⟨H0, H1, H2⟩, HC, %W', %hW', HO⟩
  isplitl [HIO]; · iexact HIO
  isplitl [H0 H1 H2 Hbufs]
  · isplitl [H0]; · iexact H0
    isplitl [H1]; · iexact H1
    isplitl [H2]; · iexact H2
    iexact Hbufs
  isplitl [HC Hsems]
  · isplitl [HC]; · iexact HC
    iexact Hsems
  iexists W'; isplitr
  · ipureintro; exact fun p hp => (hW' p hp).imp_right Or.inl
  · iexact HO

/-- The gather task from all of its subcore's storage, for any memrefs. -/
theorem task (q : Fin 4) (d : Dev nD) (i : grid0.Coords)
    {arg2 : Memref sig .scVector .hbm S100000x128 .f32} {harg2 : arg2.IsWhole} {arg3 : Memref sig .scVector .hbm S40960 .i32} {harg3 : arg3.IsWhole}
    {arg4 : Memref sig .scVector .hbm S40960x128 .f32} {harg4 : arg4.IsWhole} {arg5 : Memref sig .scVector .vmem S1280 .i32} {harg5 : arg5.IsWhole}
    {arg6 : Memref sig .scVector .vmem S320x128 .f32} {harg6 : arg6.IsWhole} {arg7 : Memref sig .scVector .vmem S320x128 .f32} {harg7 : arg7.IsWhole}
    {arg8 arg9 arg10 arg11 a12 a13 : DmaSems sig S_} {q2 q3 : PosShare TreeShare}
    (tb : Buf (Elt F) (arg2.view.loc (tl d i))) (fi : Buf (Elt F) (arg3.view.loc (tl d i))) (fo fo' : Buf (Elt F) (arg4.view.loc (tl d i)))
    (hin : ∀ p, (arg3.view.read (Elt F) fi p).toNat < 100000)
    (hw : arg4.view.write (Elt F) fo (gath (arg2.view.read (Elt F) tb) (arg3.view.read (Elt F) fi)) Finset.univ = fo')
    (b₀ b₁ b₂ : Ref sig .scVector)
    (h₀ : (tl d i).2.devRef b₀ ∈ ownRefs (tl d i).2) (h₁ : (tl d i).2.devRef b₁ ∈ ownRefs (tl d i).2) (h₂ : (tl d i).2.devRef b₂ ∈ ownRefs (tl d i).2)
    (h01 : b₁ ≠ b₀) (h02 : b₂ ≠ b₀) (h12 : b₂ ≠ b₁)
    (hb : (taskScratch d i arg5 arg6 arg7 : sProp 𝕄)
      = iprop((∃ f, (tl d i).loc b₀ ↦{fullShare} f) ∗ (∃ f, (tl d i).loc b₁ ↦{fullShare} f) ∗ (∃ f, (tl d i).loc b₂ ↦{fullShare} f)))
    (hinj : Function.Injective ![arg8.sem, arg9.sem, arg10.sem, arg11.sem, a12.sem, a13.sem])
    (O : CellTallies nD τ sig (HIx 4)) (W : Waits sig (HIx 4)) (hO : ∀ g, O g none = 0) :
    iprop(levAts (K (F := F)).L (K (F := F)).lev ∗ emp ∗ taskIO d i arg2 arg3 arg4 q2 q3 tb fi fo ∗ scopedBufs (tl d i) ∗ scopedSems0 (tl d i)
        ∗ owes (tl d i) O W)
      ⊢ wp frame (wpE (defs₀ (F := F)) 𝒱₀ (tl d i) none) Set.univ
        (cc0__gather_body i arg2 harg2 arg3 harg3 arg4 harg4 arg5 harg5 arg6 harg6 arg7 harg7 arg8 arg9 arg10 arg11 a12 a13)
        fun _ => iprop(taskIO d i arg2 arg3 arg4 q2 q3 tb fi fo' ∗ scopedBufs (tl d i) ∗ scopedSems0 (tl d i)
          ∗ ∃ W', ⌜∀ p ∈ W', p ∈ W ∨ p.2 = none ∨ p.2 = some q⌝ ∗ owes (tl d i) O W') := by
  have h := gather_body d i arg2 harg2 arg3 harg3 arg4 harg4 arg5 harg5 arg6 harg6 arg7 harg7 arg8 arg9 arg10 arg11 a12 a13 q2 q3 tb fi fo hin O W
  rw [hw, hb] at h
  exact from_storage d ((i 0).castLE hcore0) ((i 1).castLE hsub0) b₀ b₁ b₂
    ![arg8.sem, arg9.sem, arg10.sem, arg11.sem, a12.sem, a13.sem] h₀ h₁ h₂ h01 h02 h12 hinj q O W hO _ _ _ h

/-! ## The obligations -/

section Obligations

/-- Call 0's body on a vector subcore. -/
theorem defs₀_vector0 (c : Fin τ.nSC) (s : Fin τ.nSub) :
    defs₀ (F := F) (.scVector c s) 0 ()
      = SparseCore.onTile hcore0 hsub0 (fun c s => cc0__gather_body (coordsV c s) tableM (Memref.isWhole_whole _)
          (Memref.whole main_v12_scv) (Memref.isWhole_whole _) (Memref.whole main_v13_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scoped0 cc0_scoped1) ⟨⟩ c s := rfl

/-- Call 1's body on a vector subcore. -/
theorem defs₀_vector2 (c : Fin τ.nSC) (s : Fin τ.nSub) :
    defs₀ (F := F) (.scVector c s) 2 ()
      = SparseCore.onTile hcore0 hsub0 (fun c s => cc0__gather_body (coordsV c s) tableM (Memref.isWhole_whole _)
          (Memref.whole main_v18_scv) (Memref.isWhole_whole _) (Memref.whole main_v19_scv) (Memref.isWhole_whole _)
          (Memref.whole cc2_scratch0) (Memref.isWhole_whole _) (Memref.whole cc2_scratch1) (Memref.isWhole_whole _)
          (Memref.whole cc2_scratch2) (Memref.isWhole_whole _) cc2_scratch3 cc2_scratch4 cc2_scratch5 cc2_scratch6 cc2_scoped0 cc2_scoped1) ⟨⟩ c s := rfl

/-- Call 2's body on a vector subcore. -/
theorem defs₀_vector4 (c : Fin τ.nSC) (s : Fin τ.nSub) :
    defs₀ (F := F) (.scVector c s) 4 ()
      = SparseCore.onTile hcore0 hsub0 (fun c s => cc0__gather_body (coordsV c s) tableM (Memref.isWhole_whole _)
          (Memref.whole main_v24_scv) (Memref.isWhole_whole _) (Memref.whole main_v25_scv) (Memref.isWhole_whole _)
          (Memref.whole cc4_scratch0) (Memref.isWhole_whole _) (Memref.whole cc4_scratch1) (Memref.isWhole_whole _)
          (Memref.whole cc4_scratch2) (Memref.isWhole_whole _) cc4_scratch3 cc4_scratch4 cc4_scratch5 cc4_scratch6 cc4_scoped0 cc4_scoped1) ⟨⟩ c s := rfl

/-- Call 3's body on a vector subcore. -/
theorem defs₀_vector6 (c : Fin τ.nSC) (s : Fin τ.nSub) :
    defs₀ (F := F) (.scVector c s) 6 ()
      = SparseCore.onTile hcore0 hsub0 (fun c s => cc0__gather_body (coordsV c s) tableM (Memref.isWhole_whole _)
          (Memref.whole main_v30_scv) (Memref.isWhole_whole _) (Memref.whole main_v31_scv) (Memref.isWhole_whole _)
          (Memref.whole cc6_scratch0) (Memref.isWhole_whole _) (Memref.whole cc6_scratch1) (Memref.isWhole_whole _)
          (Memref.whole cc6_scratch2) (Memref.isWhole_whole _) cc6_scratch3 cc6_scratch4 cc6_scratch5 cc6_scratch6 cc6_scoped0 cc6_scoped1) ⟨⟩ c s := rfl

variable (hix : ∀ q d p, (ix q d p).toNat < 100000)
include hix

set_option maxRecDepth 16384 in
/-- A tile of call 0 runs its task. -/
theorem tileObl0 : (K (F := F)).TileObl (D (F := F)) 𝒱 (P Tb ix o₀) v₀ 0 := by
  intro d c i O W hO _ _
  simp only [show (P Tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact task 0 d (coordsV ⟨_, hci.1⟩ ⟨_, hci.2⟩) (arg2 := tableM) (harg2 := Memref.isWhole_whole _)
    (arg3 := Memref.whole main_v12_scv) (harg3 := Memref.isWhole_whole _) (arg4 := Memref.whole main_v13_scv) (harg4 := Memref.isWhole_whole _)
    (arg5 := Memref.whole cc0_scratch0) (harg5 := Memref.isWhole_whole _) (arg6 := Memref.whole cc0_scratch1) (harg6 := Memref.isWhole_whole _)
    (arg7 := Memref.whole cc0_scratch2) (harg7 := Memref.isWhole_whole _) (arg8 := cc0_scratch3) (arg9 := cc0_scratch4)
    (arg10 := cc0_scratch5) (arg11 := cc0_scratch6) (a12 := cc0_scoped0) (a13 := cc0_scoped1)
    (Tb d) (ix 0 d) (o₀ 0 d) (gath (Tb d) (ix 0 d)) (hix 0 d) (View.write_whole_univ _ _ _)
    cc0_scratch0 cc0_scratch1 cc0_scratch2
    (SparseCore.Cfg.mem_ownRefs_of_owner rfl) (SparseCore.Cfg.mem_ownRefs_of_owner rfl) (SparseCore.Cfg.mem_ownRefs_of_owner rfl)
    (by decide) (by decide) (by decide) rfl (by decide) O W hO

set_option maxRecDepth 16384 in
/-- A tile of call 1 runs its task. -/
theorem tileObl1 : (K (F := F)).TileObl (D (F := F)) 𝒱 (P Tb ix o₀) v₀ 1 := by
  intro d c i O W hO _ _
  simp only [show (P Tb ix o₀).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact task 1 d (coordsV ⟨_, hci.1⟩ ⟨_, hci.2⟩) (arg2 := tableM) (harg2 := Memref.isWhole_whole _)
    (arg3 := Memref.whole main_v18_scv) (harg3 := Memref.isWhole_whole _) (arg4 := Memref.whole main_v19_scv) (harg4 := Memref.isWhole_whole _)
    (arg5 := Memref.whole cc2_scratch0) (harg5 := Memref.isWhole_whole _) (arg6 := Memref.whole cc2_scratch1) (harg6 := Memref.isWhole_whole _)
    (arg7 := Memref.whole cc2_scratch2) (harg7 := Memref.isWhole_whole _) (arg8 := cc2_scratch3) (arg9 := cc2_scratch4)
    (arg10 := cc2_scratch5) (arg11 := cc2_scratch6) (a12 := cc2_scoped0) (a13 := cc2_scoped1)
    (Tb d) (ix 1 d) (o₀ 1 d) (gath (Tb d) (ix 1 d)) (hix 1 d) (View.write_whole_univ _ _ _)
    cc2_scratch0 cc2_scratch1 cc2_scratch2
    (SparseCore.Cfg.mem_ownRefs_of_owner rfl) (SparseCore.Cfg.mem_ownRefs_of_owner rfl) (SparseCore.Cfg.mem_ownRefs_of_owner rfl)
    (by decide) (by decide) (by decide) rfl (by decide) O W hO

set_option maxRecDepth 16384 in
/-- A tile of call 2 runs its task. -/
theorem tileObl2 : (K (F := F)).TileObl (D (F := F)) 𝒱 (P Tb ix o₀) v₀ 2 := by
  intro d c i O W hO _ _
  simp only [show (P Tb ix o₀).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact task 2 d (coordsV ⟨_, hci.1⟩ ⟨_, hci.2⟩) (arg2 := tableM) (harg2 := Memref.isWhole_whole _)
    (arg3 := Memref.whole main_v24_scv) (harg3 := Memref.isWhole_whole _) (arg4 := Memref.whole main_v25_scv) (harg4 := Memref.isWhole_whole _)
    (arg5 := Memref.whole cc4_scratch0) (harg5 := Memref.isWhole_whole _) (arg6 := Memref.whole cc4_scratch1) (harg6 := Memref.isWhole_whole _)
    (arg7 := Memref.whole cc4_scratch2) (harg7 := Memref.isWhole_whole _) (arg8 := cc4_scratch3) (arg9 := cc4_scratch4)
    (arg10 := cc4_scratch5) (arg11 := cc4_scratch6) (a12 := cc4_scoped0) (a13 := cc4_scoped1)
    (Tb d) (ix 2 d) (o₀ 2 d) (gath (Tb d) (ix 2 d)) (hix 2 d) (View.write_whole_univ _ _ _)
    cc4_scratch0 cc4_scratch1 cc4_scratch2
    (SparseCore.Cfg.mem_ownRefs_of_owner rfl) (SparseCore.Cfg.mem_ownRefs_of_owner rfl) (SparseCore.Cfg.mem_ownRefs_of_owner rfl)
    (by decide) (by decide) (by decide) rfl (by decide) O W hO

set_option maxRecDepth 16384 in
/-- A tile of call 3 runs its task. -/
theorem tileObl3 : (K (F := F)).TileObl (D (F := F)) 𝒱 (P Tb ix o₀) v₀ 3 := by
  intro d c i O W hO _ _
  simp only [show (P Tb ix o₀).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector6]; simp only [SparseCore.onTile, hci, and_self, ↓reduceDIte]
  exact task 3 d (coordsV ⟨_, hci.1⟩ ⟨_, hci.2⟩) (arg2 := tableM) (harg2 := Memref.isWhole_whole _)
    (arg3 := Memref.whole main_v30_scv) (harg3 := Memref.isWhole_whole _) (arg4 := Memref.whole main_v31_scv) (harg4 := Memref.isWhole_whole _)
    (arg5 := Memref.whole cc6_scratch0) (harg5 := Memref.isWhole_whole _) (arg6 := Memref.whole cc6_scratch1) (harg6 := Memref.isWhole_whole _)
    (arg7 := Memref.whole cc6_scratch2) (harg7 := Memref.isWhole_whole _) (arg8 := cc6_scratch3) (arg9 := cc6_scratch4)
    (arg10 := cc6_scratch5) (arg11 := cc6_scratch6) (a12 := cc6_scoped0) (a13 := cc6_scoped1)
    (Tb d) (ix 3 d) (o₀ 3 d) (gath (Tb d) (ix 3 d)) (hix 3 d) (View.write_whole_univ _ _ _)
    cc6_scratch0 cc6_scratch1 cc6_scratch2
    (SparseCore.Cfg.mem_ownRefs_of_owner rfl) (SparseCore.Cfg.mem_ownRefs_of_owner rfl) (SparseCore.Cfg.mem_ownRefs_of_owner rfl)
    (by decide) (by decide) (by decide) rfl (by decide) O W hO

/-- Every call's tiles run their tasks. -/
theorem tileObl (q : Fin 4) : (K (F := F)).TileObl (D (F := F)) 𝒱 (P Tb ix o₀) v₀ q :=
  match q with
  | 0 => tileObl0 Tb ix o₀ hix
  | 1 => tileObl1 Tb ix o₀ hix
  | 2 => tileObl2 Tb ix o₀ hix
  | 3 => tileObl3 Tb ix o₀ hix

end Obligations

end Cert.Proof

end
-- ==== Proof.Mlp.lean ====
/-
  The dense kernel's body, once: on six whole staging buffers it leaves the first five as they were and the sixth at
  `mlpOut` of what those five read.
-/
module

public import proofs.«01_k».proof.Proof.Common
public import Idealize.ShloMosaic.Lib.Pipeline.FrameBody

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 4) (Elt F) ℕ UU ℕ

/-- What the dense kernel makes of one chunk: of the gathered rows `g` (feature, row, column), the first layer's weights
    `w1` and bias `b1`, the second layer's `w2` and `b2`. -/
def mlpOut (g : S10x2048x128.Idx → F .f32) (w1 : S1280x1024.Idx → F .bf16) (b1 : S1x1024.Idx → F .bf16)
    (w2 : S1024x128.Idx → F .bf16) (b2 : S1x1.Idx → F .f32) : S2048.Idx → F .f32 :=
  k1_pay1
    (k1_pay2
      (fun x => g ((Rect.unit (s := S10x2048x128) ![0, 0, 0] S1x2048x128.size inb_S10x2048x128_S1x2048x128_0_0_0).idx x))
      (fun x => g ((Rect.unit (s := S10x2048x128) ![1, 0, 0] S1x2048x128.size inb_S10x2048x128_S1x2048x128_1_0_0).idx x))
      (fun x => g ((Rect.unit (s := S10x2048x128) ![2, 0, 0] S1x2048x128.size inb_S10x2048x128_S1x2048x128_2_0_0).idx x))
      (fun x => g ((Rect.unit (s := S10x2048x128) ![3, 0, 0] S1x2048x128.size inb_S10x2048x128_S1x2048x128_3_0_0).idx x))
      (fun x => g ((Rect.unit (s := S10x2048x128) ![4, 0, 0] S1x2048x128.size inb_S10x2048x128_S1x2048x128_4_0_0).idx x))
      (fun x => g ((Rect.unit (s := S10x2048x128) ![5, 0, 0] S1x2048x128.size inb_S10x2048x128_S1x2048x128_5_0_0).idx x))
      (fun x => g ((Rect.unit (s := S10x2048x128) ![6, 0, 0] S1x2048x128.size inb_S10x2048x128_S1x2048x128_6_0_0).idx x))
      (fun x => g ((Rect.unit (s := S10x2048x128) ![7, 0, 0] S1x2048x128.size inb_S10x2048x128_S1x2048x128_7_0_0).idx x))
      (fun x => g ((Rect.unit (s := S10x2048x128) ![8, 0, 0] S1x2048x128.size inb_S10x2048x128_S1x2048x128_8_0_0).idx x))
      (fun x => g ((Rect.unit (s := S10x2048x128) ![9, 0, 0] S1x2048x128.size inb_S10x2048x128_S1x2048x128_9_0_0).idx x))
      (fun x => w1 ((Rect.unit (s := S1280x1024) ![0, 0] S1280x1024.size inb_S1280x1024_S1280x1024_0_0).idx x)))
    (fun x => b1 ((Rect.unit (s := S1x1024) ![0, 0] S1x1024.size inb_S1x1024_S1x1024_0_0).idx x))
    (fun x => w2 ((Rect.unit (s := S1024x128) ![0, 0] S1024x128.size inb_S1024x128_S1024x128_0_0).idx x))
    (fun x => b2 ((Rect.unit (s := S1x1) ![0, 0] S1x1.size inb_S1x1_S1x1_0_0).idx x))

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The dense kernel's body on six whole buffers. -/
theorem mlp_wp (c : Dev nD) (i : grid1.Coords)
    (M1 : Memref sig .tc .vmem S10x2048x128 .f32) (h1 : M1.IsWhole) (M2 : Memref sig .tc .vmem S1280x1024 .bf16) (h2 : M2.IsWhole)
    (M3 : Memref sig .tc .vmem S1x1024 .bf16) (h3 : M3.IsWhole) (M4 : Memref sig .tc .vmem S1024x128 .bf16) (h4 : M4.IsWhole)
    (M5 : Memref sig .tc .vmem S1x1 .f32) (h5 : M5.IsWhole) (M6 : Memref sig .tc .vmem S2048 .f32) (h6 : M6.IsWhole)
    (f1 : Bf (F := F) c M1) (f2 : Bf (F := F) c M2) (f3 : Bf (F := F) c M3) (f4 : Bf (F := F) c M4) (f5 : Bf (F := F) c M5)
    (f6 : Bf (F := F) c M6) (E : Set ℕ) (Q : PUnit → sProp 𝕄) :
    iprop(pt c M1 f1 ∗ pt c M2 f2 ∗ pt c M3 f3 ∗ pt c M4 f4 ∗ pt c M5 f5 ∗ pt c M6 f6
        ∗ (∀ f : Bf (F := F) c M6, iprop(⌜M6.view.read (Elt F) f = mlpOut (M1.view.read (Elt F) f1) (M2.view.read (Elt F) f2) (M3.view.read (Elt F) f3)
              (M4.view.read (Elt F) f4) (M5.view.read (Elt F) f5)⌝
            ∗ pt c M1 f1 ∗ pt c M2 f2 ∗ pt c M3 f3 ∗ pt c M4 f4 ∗ pt c M5 f5 ∗ pt c M6 f) -∗ Q ⟨⟩))
      ⊢ wp frame (wpE (defs₀ (F := F)) 𝒱₀ c none) E (cc1__mlp_body i M1 h1 M2 h2 M3 h3 M4 h4 M5 h5 M6 h6) Q := by
  rw [cc1__mlp_body_eq_skeleton]
  unfold cc1__mlp_body_skel
  rw [k1_part1_eq_skeleton]
  unfold k1_part1_skel
  iintro ⟨H1, H2, H3, H4, H5, H6, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    iexact H6
  ipureintro
  rw [View.read_writes_junk_eq_canon]
  funext y
  have hy : (Rect.unit (s := S2048) ![0] S2048.size inb_S2048_S2048_0).emb y = y := by
    funext a; refine Fin.ext ?_
    obtain rfl : a = 0 := Subsingleton.elim _ _
    show 0 + 1 * (y 0).val = (y 0).val
    omega
  conv_lhs => rw [← hy]
  unfold mlp_wp.sl.H6_1
  exact (View.canon_cons_emb _ _ _ _).trans rfl

/-- A whole memref owned at what it reads is its buffer held at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The body at the buffers as a pipeline hands them over: five at what they read, the sixth at anything; it leaves the
    sixth at the MLP of the five. -/
theorem mlp_owns (c : Dev nD) (i : grid1.Coords)
    (M1 : Memref sig .tc .vmem S10x2048x128 .f32) (h1 : M1.IsWhole) (M2 : Memref sig .tc .vmem S1280x1024 .bf16) (h2 : M2.IsWhole)
    (M3 : Memref sig .tc .vmem S1x1024 .bf16) (h3 : M3.IsWhole) (M4 : Memref sig .tc .vmem S1024x128 .bf16) (h4 : M4.IsWhole)
    (M5 : Memref sig .tc .vmem S1x1 .f32) (h5 : M5.IsWhole) (M6 : Memref sig .tc .vmem S2048 .f32) (h6 : M6.IsWhole)
    (X1 : S10x2048x128.Idx → F .f32) (X2 : S1280x1024.Idx → F .bf16) (X3 : S1x1024.Idx → F .bf16) (X4 : S1024x128.Idx → F .bf16)
    (X5 : S1x1.Idx → F .f32) (X6 : S2048.Idx → F .f32) (E : Set ℕ) (Q : PUnit → sProp 𝕄) :
    iprop(owns (c : Thread nD τ) M1 fullShare (Val := Elt F) X1 ∗ owns (c : Thread nD τ) M2 fullShare (Val := Elt F) X2 ∗ owns (c : Thread nD τ) M3 fullShare (Val := Elt F) X3
        ∗ owns (c : Thread nD τ) M4 fullShare (Val := Elt F) X4 ∗ owns (c : Thread nD τ) M5 fullShare (Val := Elt F) X5 ∗ owns (c : Thread nD τ) M6 fullShare (Val := Elt F) X6
        ∗ (iprop(owns (c : Thread nD τ) M1 fullShare (Val := Elt F) X1 ∗ owns (c : Thread nD τ) M2 fullShare (Val := Elt F) X2 ∗ owns (c : Thread nD τ) M3 fullShare (Val := Elt F) X3
          ∗ owns (c : Thread nD τ) M4 fullShare (Val := Elt F) X4 ∗ owns (c : Thread nD τ) M5 fullShare (Val := Elt F) X5
          ∗ owns (c : Thread nD τ) M6 fullShare (Val := Elt F) (mlpOut X1 X2 X3 X4 X5)) -∗ Q ⟨⟩))
      ⊢ wp frame (wpE (defs₀ (F := F)) 𝒱₀ c none) E (cc1__mlp_body i M1 h1 M2 h2 M3 h3 M4 h4 M5 h5 M6 h6) Q := by
  rw [owns_pt c M1 h1, owns_pt c M2 h2, owns_pt c M3 h3, owns_pt c M4 h4, owns_pt c M5 h5, owns_pt c M6 h6, owns_pt c M6 h6]
  iintro ⟨⟨%f1, %e1, H1⟩, ⟨%f2, %e2, H2⟩, ⟨%f3, %e3, H3⟩, ⟨%f4, %e4, H4⟩, ⟨%f5, %e5, H5⟩, ⟨%f6, -, H6⟩, HQ⟩
  subst e1 e2 e3 e4 e5
  iapply (mlp_wp c i M1 h1 M2 h2 M3 h3 M4 h4 M5 h5 M6 h6 f1 f2 f3 f4 f5 f6 E _)
  isplitl [H1]; · iexact H1
  isplitl [H2]; · iexact H2
  isplitl [H3]; · iexact H3
  isplitl [H4]; · iexact H4
  isplitl [H5]; · iexact H5
  isplitl [H6]; · iexact H6
  iintro %f ⟨%hf, H1, H2, H3, H4, H5, H6⟩
  iapply HQ
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists f; isplitr; · ipureintro; exact hf
  iexact H6

/-- The four dense kernels run one body. -/
theorem mlp_body3 : cc3__mlp_body (F := F) = cc1__mlp_body (F := F) := rfl
theorem mlp_body5 : cc5__mlp_body (F := F) = cc1__mlp_body (F := F) := rfl
theorem mlp_body7 : cc7__mlp_body (F := F) = cc1__mlp_body (F := F) := rfl

end Cert.Proof

end
-- ==== Proof.Dense.lean ====
/-
  The four dense kernels as pipelines: what each array and staging buffer holds, point by point, from any contents of
  the buffers they are entered at; the body's obligation at every point; and each kernel as a region of the program,
  entered and left with the core's buffers held, while the core owes the calls to come.
-/
module

public import proofs.«01_k».proof.Proof.Mlp
public import proofs.«01_k».proof.Proof.Gen.KernelIdeal.Launch
public import proofs.«01_k».proof.Proof.Gen.KernelIdeal.Points
public import Idealize.ShloMosaic.Lib.Pipeline.RegionArraysS

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation BodyObligationLoose)

variable {F : FTy → Type} [FloatOps F]

local notation "𝕄" => MT nD τ sig (HIx 4) (Elt F) ℕ UU ℕ

abbrev adm : (p : Fin 4) → (pcfgs (F := F) p).Adm := fun p => (cfgs p).toPCfg_adm

/-- What the core has recorded when it has made `n` calls: waits at or below the last one's levels. -/
abbrev recd (n : ℕ) (c : Dev nD) : Set (SemLoc sig × HIx 4) :=
  {p | (K (F := F)).lev (SparseCore.T c, p.1) p.2 ≤ 8 * n}

/-! ## The proof data, at any contents `V` and after any number `n` of calls -/

variable (n : ℕ) (V : Dev nD → Valuation τ sig (Elt F))

/-- Window `w`'s block at point `t`, of the entry contents. -/
abbrev blkOf (cfg : Cfg sig Λ₀) (V : Dev nD → Valuation τ sig (Elt F)) (c : Dev nD) (w : Fin cfg.W) (t : Fin cfg.N) : ((cfg.win w).xblock (cfg.grid.coords t)).Idx → Elt F (cfg.win w).elt :=
  ((cfg.win w).blk t).view.read (Elt F) (V c (Proc.devRef .tc (Pipeline.arrRef cfg.spec w)))

/-- The dense kernel of slice 0: its arrays at `V`; the body leaves each input's buffer at its block and the result's at
    the MLP of the five blocks; the core owes the calls from `n` on. -/
def dat1 (c : Dev nD) : Dat τ (Elt F) (HIx 4) ℕ UU ℕ cfg1 c where
  A w := V c (Proc.devRef .tc (Pipeline.arrRef spec1 w))
  after w t := match w with
    | ⟨0, _⟩ => blkOf cfg1 V c 0 t
    | ⟨1, _⟩ => blkOf cfg1 V c 1 t
    | ⟨2, _⟩ => blkOf cfg1 V c 2 t
    | ⟨3, _⟩ => blkOf cfg1 V c 3 t
    | ⟨4, _⟩ => blkOf cfg1 V c 4 t
    | ⟨5, _⟩ => mlpOut (blkOf cfg1 V c 0 t) (blkOf cfg1 V c 1 t) (blkOf cfg1 V c 2 t) (blkOf cfg1 V c 3 t) (blkOf cfg1 V c 4 t)
  Φ _ := Pipeline.scopedRest (Ix := HIx 4) (Name := ℕ) (U := UU) (Lvl := ℕ) (Val := Elt F) spec1 c
  q _ := fullShare
  owed _ := (K (F := F)).Otc c n
  recorded _ := recd (F := F) n c

theorem body1 (c : Dev nD) : BodyObligation (dat1 n V c) (defs₀ (F := F)) 𝒱₀ none Set.univ := fun t => by
  rw [bigSep_W1, bigSep_W1]
  dsimp only
  rw [show (dat1 n V c).Φ t.succ = (dat1 n V c).Φ t.castSucc from rfl,
    show (dat1 n V c).owesAt none t.succ = (dat1 n V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [show (dat1 n V c).before 0 t d0 = blkOf cfg1 V c 0 t from
      (dat1 n V c).before_in_eq_fetched 0 rfl (fun _ => rfl) (fun _ _ _ => rfl) (fun _ => rfl) t d0,
    show (dat1 n V c).before 1 t d1 = blkOf cfg1 V c 1 t from
      (dat1 n V c).before_in_eq_fetched 1 rfl (fun _ => rfl) (fun _ _ _ => rfl) (fun _ => rfl) t d1,
    show (dat1 n V c).before 2 t d2 = blkOf cfg1 V c 2 t from
      (dat1 n V c).before_in_eq_fetched 2 rfl (fun _ => rfl) (fun _ _ _ => rfl) (fun _ => rfl) t d2,
    show (dat1 n V c).before 3 t d3 = blkOf cfg1 V c 3 t from
      (dat1 n V c).before_in_eq_fetched 3 rfl (fun _ => rfl) (fun _ _ _ => rfl) (fun _ => rfl) t d3,
    show (dat1 n V c).before 4 t d4 = blkOf cfg1 V c 4 t from
      (dat1 n V c).before_in_eq_fetched 4 rfl (fun _ => rfl) (fun _ _ _ => rfl) (fun _ => rfl) t d4]
  rw [show defs₀ (F := F) Proc.tc 1 (t, cfg1.slots t) = bodyAt1 t from rfl]
  have h := (mlp_owns (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (blkOf cfg1 V c 0 t) (blkOf cfg1 V c 1 t) (blkOf cfg1 V c 2 t) (blkOf cfg1 V c 3 t) (blkOf cfg1 V c 4 t)
    ((dat1 n V c).before 5 t d5) Set.univ
    (fun _ => iprop((dat1 n V c).Φ t.castSucc ∗ (dat1 n V c).owesAt none t.castSucc
      ∗ owns (c : Thread nD τ) (st1_0 t) fullShare (Val := Elt F) (blkOf cfg1 V c 0 t) ∗ owns (c : Thread nD τ) (st1_1 t) fullShare (Val := Elt F) (blkOf cfg1 V c 1 t)
      ∗ owns (c : Thread nD τ) (st1_2 t) fullShare (Val := Elt F) (blkOf cfg1 V c 2 t) ∗ owns (c : Thread nD τ) (st1_3 t) fullShare (Val := Elt F) (blkOf cfg1 V c 3 t)
      ∗ owns (c : Thread nD τ) (st1_4 t) fullShare (Val := Elt F) (blkOf cfg1 V c 4 t) ∗ owns (c : Thread nD τ) (st1_5 t) fullShare (Val := Elt F)
        (mlpOut (blkOf cfg1 V c 0 t) (blkOf cfg1 V c 1 t) (blkOf cfg1 V c 2 t) (blkOf cfg1 V c 3 t) (blkOf cfg1 V c 4 t)))))
  iapply h
  isplitl [H0]; · iexact H0
  isplitl [H1]; · iexact H1
  isplitl [H2]; · iexact H2
  isplitl [H3]; · iexact H3
  isplitl [H4]; · iexact H4
  isplitl [H5]; · iexact H5
  iintro Hp
  isplitl [HΦ]; · iexact HΦ
  isplitl [Howes]; · iexact Howes
  iexact Hp

/-- The dense kernel of slice 1: its arrays at `V`; the body leaves each input's buffer at its block and the result's at
    the MLP of the five blocks; the core owes the calls from `n` on. -/
def dat3 (c : Dev nD) : Dat τ (Elt F) (HIx 4) ℕ UU ℕ cfg3 c where
  A w := V c (Proc.devRef .tc (Pipeline.arrRef spec3 w))
  after w t := match w with
    | ⟨0, _⟩ => blkOf cfg3 V c 0 t
    | ⟨1, _⟩ => blkOf cfg3 V c 1 t
    | ⟨2, _⟩ => blkOf cfg3 V c 2 t
    | ⟨3, _⟩ => blkOf cfg3 V c 3 t
    | ⟨4, _⟩ => blkOf cfg3 V c 4 t
    | ⟨5, _⟩ => mlpOut (blkOf cfg3 V c 0 t) (blkOf cfg3 V c 1 t) (blkOf cfg3 V c 2 t) (blkOf cfg3 V c 3 t) (blkOf cfg3 V c 4 t)
  Φ _ := Pipeline.scopedRest (Ix := HIx 4) (Name := ℕ) (U := UU) (Lvl := ℕ) (Val := Elt F) spec3 c
  q _ := fullShare
  owed _ := (K (F := F)).Otc c n
  recorded _ := recd (F := F) n c

theorem body3 (c : Dev nD) : BodyObligation (dat3 n V c) (defs₀ (F := F)) 𝒱₀ none Set.univ := fun t => by
  rw [bigSep_W3, bigSep_W3]
  dsimp only
  rw [show (dat3 n V c).Φ t.succ = (dat3 n V c).Φ t.castSucc from rfl,
    show (dat3 n V c).owesAt none t.succ = (dat3 n V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [show (dat3 n V c).before 0 t d0 = blkOf cfg3 V c 0 t from
      (dat3 n V c).before_in_eq_fetched 0 rfl (fun _ => rfl) (fun _ _ _ => rfl) (fun _ => rfl) t d0,
    show (dat3 n V c).before 1 t d1 = blkOf cfg3 V c 1 t from
      (dat3 n V c).before_in_eq_fetched 1 rfl (fun _ => rfl) (fun _ _ _ => rfl) (fun _ => rfl) t d1,
    show (dat3 n V c).before 2 t d2 = blkOf cfg3 V c 2 t from
      (dat3 n V c).before_in_eq_fetched 2 rfl (fun _ => rfl) (fun _ _ _ => rfl) (fun _ => rfl) t d2,
    show (dat3 n V c).before 3 t d3 = blkOf cfg3 V c 3 t from
      (dat3 n V c).before_in_eq_fetched 3 rfl (fun _ => rfl) (fun _ _ _ => rfl) (fun _ => rfl) t d3,
    show (dat3 n V c).before 4 t d4 = blkOf cfg3 V c 4 t from
      (dat3 n V c).before_in_eq_fetched 4 rfl (fun _ => rfl) (fun _ _ _ => rfl) (fun _ => rfl) t d4]
  rw [show defs₀ (F := F) Proc.tc 3 (t, cfg3.slots t) = bodyAt3 t from rfl]
  unfold bodyAt3
  rw [mlp_body3]
  have h := (mlp_owns (F := F) c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3))
    (st3_4 t) (hstage3_4 ((cfg3.slots t 4).cast nbuf3_4)) (st3_5 t) (hstage3_5 ((cfg3.slots t 5).cast nbuf3_5))
    (blkOf cfg3 V c 0 t) (blkOf cfg3 V c 1 t) (blkOf cfg3 V c 2 t) (blkOf cfg3 V c 3 t) (blkOf cfg3 V c 4 t)
    ((dat3 n V c).before 5 t d5) Set.univ
    (fun _ => iprop((dat3 n V c).Φ t.castSucc ∗ (dat3 n V c).owesAt none t.castSucc
      ∗ owns (c : Thread nD τ) (st3_0 t) fullShare (Val := Elt F) (blkOf cfg3 V c 0 t) ∗ owns (c : Thread nD τ) (st3_1 t) fullShare (Val := Elt F) (blkOf cfg3 V c 1 t)
      ∗ owns (c : Thread nD τ) (st3_2 t) fullShare (Val := Elt F) (blkOf cfg3 V c 2 t) ∗ owns (c : Thread nD τ) (st3_3 t) fullShare (Val := Elt F) (blkOf cfg3 V c 3 t)
      ∗ owns (c : Thread nD τ) (st3_4 t) fullShare (Val := Elt F) (blkOf cfg3 V c 4 t) ∗ owns (c : Thread nD τ) (st3_5 t) fullShare (Val := Elt F)
        (mlpOut (blkOf cfg3 V c 0 t) (blkOf cfg3 V c 1 t) (blkOf cfg3 V c 2 t) (blkOf cfg3 V c 3 t) (blkOf cfg3 V c 4 t)))))
  iapply h
  isplitl [H0]; · iexact H0
  isplitl [H1]; · iexact H1
  isplitl [H2]; · iexact H2
  isplitl [H3]; · iexact H3
  isplitl [H4]; · iexact H4
  isplitl [H5]; · iexact H5
  iintro Hp
  isplitl [HΦ]; · iexact HΦ
  isplitl [Howes]; · iexact Howes
  iexact Hp

/-- The dense kernel of slice 2: its arrays at `V`; the body leaves each input's buffer at its block and the result's at
    the MLP of the five blocks; the core owes the calls from `n` on. -/
def dat5 (c : Dev nD) : Dat τ (Elt F) (HIx 4) ℕ UU ℕ cfg5 c where
  A w := V c (Proc.devRef .tc (Pipeline.arrRef spec5 w))
  after w t := match w with
    | ⟨0, _⟩ => blkOf cfg5 V c 0 t
    | ⟨1, _⟩ => blkOf cfg5 V c 1 t
    | ⟨2, _⟩ => blkOf cfg5 V c 2 t
    | ⟨3, _⟩ => blkOf cfg5 V c 3 t
    | ⟨4, _⟩ => blkOf cfg5 V c 4 t
    | ⟨5, _⟩ => mlpOut (blkOf cfg5 V c 0 t) (blkOf cfg5 V c 1 t) (blkOf cfg5 V c 2 t) (blkOf cfg5 V c 3 t) (blkOf cfg5 V c 4 t)
  Φ _ := Pipeline.scopedRest (Ix := HIx 4) (Name := ℕ) (U := UU) (Lvl := ℕ) (Val := Elt F) spec5 c
  q _ := fullShare
  owed _ := (K (F := F)).Otc c n
  recorded _ := recd (F := F) n c

theorem body5 (c : Dev nD) : BodyObligation (dat5 n V c) (defs₀ (F := F)) 𝒱₀ none Set.univ := fun t => by
  rw [bigSep_W5, bigSep_W5]
  dsimp only
  rw [show (dat5 n V c).Φ t.succ = (dat5 n V c).Φ t.castSucc from rfl,
    show (dat5 n V c).owesAt none t.succ = (dat5 n V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [show (dat5 n V c).before 0 t d0 = blkOf cfg5 V c 0 t from
      (dat5 n V c).before_in_eq_fetched 0 rfl (fun _ => rfl) (fun _ _ _ => rfl) (fun _ => rfl) t d0,
    show (dat5 n V c).before 1 t d1 = blkOf cfg5 V c 1 t from
      (dat5 n V c).before_in_eq_fetched 1 rfl (fun _ => rfl) (fun _ _ _ => rfl) (fun _ => rfl) t d1,
    show (dat5 n V c).before 2 t d2 = blkOf cfg5 V c 2 t from
      (dat5 n V c).before_in_eq_fetched 2 rfl (fun _ => rfl) (fun _ _ _ => rfl) (fun _ => rfl) t d2,
    show (dat5 n V c).before 3 t d3 = blkOf cfg5 V c 3 t from
      (dat5 n V c).before_in_eq_fetched 3 rfl (fun _ => rfl) (fun _ _ _ => rfl) (fun _ => rfl) t d3,
    show (dat5 n V c).before 4 t d4 = blkOf cfg5 V c 4 t from
      (dat5 n V c).before_in_eq_fetched 4 rfl (fun _ => rfl) (fun _ _ _ => rfl) (fun _ => rfl) t d4]
  rw [show defs₀ (F := F) Proc.tc 5 (t, cfg5.slots t) = bodyAt5 t from rfl]
  unfold bodyAt5
  rw [mlp_body5]
  have h := (mlp_owns (F := F) c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) (st5_3 t) (hstage5_3 ((cfg5.slots t 3).cast nbuf5_3))
    (st5_4 t) (hstage5_4 ((cfg5.slots t 4).cast nbuf5_4)) (st5_5 t) (hstage5_5 ((cfg5.slots t 5).cast nbuf5_5))
    (blkOf cfg5 V c 0 t) (blkOf cfg5 V c 1 t) (blkOf cfg5 V c 2 t) (blkOf cfg5 V c 3 t) (blkOf cfg5 V c 4 t)
    ((dat5 n V c).before 5 t d5) Set.univ
    (fun _ => iprop((dat5 n V c).Φ t.castSucc ∗ (dat5 n V c).owesAt none t.castSucc
      ∗ owns (c : Thread nD τ) (st5_0 t) fullShare (Val := Elt F) (blkOf cfg5 V c 0 t) ∗ owns (c : Thread nD τ) (st5_1 t) fullShare (Val := Elt F) (blkOf cfg5 V c 1 t)
      ∗ owns (c : Thread nD τ) (st5_2 t) fullShare (Val := Elt F) (blkOf cfg5 V c 2 t) ∗ owns (c : Thread nD τ) (st5_3 t) fullShare (Val := Elt F) (blkOf cfg5 V c 3 t)
      ∗ owns (c : Thread nD τ) (st5_4 t) fullShare (Val := Elt F) (blkOf cfg5 V c 4 t) ∗ owns (c : Thread nD τ) (st5_5 t) fullShare (Val := Elt F)
        (mlpOut (blkOf cfg5 V c 0 t) (blkOf cfg5 V c 1 t) (blkOf cfg5 V c 2 t) (blkOf cfg5 V c 3 t) (blkOf cfg5 V c 4 t)))))
  iapply h
  isplitl [H0]; · iexact H0
  isplitl [H1]; · iexact H1
  isplitl [H2]; · iexact H2
  isplitl [H3]; · iexact H3
  isplitl [H4]; · iexact H4
  isplitl [H5]; · iexact H5
  iintro Hp
  isplitl [HΦ]; · iexact HΦ
  isplitl [Howes]; · iexact Howes
  iexact Hp

/-- The dense kernel of slice 3: its arrays at `V`; the body leaves each input's buffer at its block and the result's at
    the MLP of the five blocks; the core owes the calls from `n` on. -/
def dat7 (c : Dev nD) : Dat τ (Elt F) (HIx 4) ℕ UU ℕ cfg7 c where
  A w := V c (Proc.devRef .tc (Pipeline.arrRef spec7 w))
  after w t := match w with
    | ⟨0, _⟩ => blkOf cfg7 V c 0 t
    | ⟨1, _⟩ => blkOf cfg7 V c 1 t
    | ⟨2, _⟩ => blkOf cfg7 V c 2 t
    | ⟨3, _⟩ => blkOf cfg7 V c 3 t
    | ⟨4, _⟩ => blkOf cfg7 V c 4 t
    | ⟨5, _⟩ => mlpOut (blkOf cfg7 V c 0 t) (blkOf cfg7 V c 1 t) (blkOf cfg7 V c 2 t) (blkOf cfg7 V c 3 t) (blkOf cfg7 V c 4 t)
  Φ _ := Pipeline.scopedRest (Ix := HIx 4) (Name := ℕ) (U := UU) (Lvl := ℕ) (Val := Elt F) spec7 c
  q _ := fullShare
  owed _ := (K (F := F)).Otc c n
  recorded _ := recd (F := F) n c

theorem body7 (c : Dev nD) : BodyObligation (dat7 n V c) (defs₀ (F := F)) 𝒱₀ none Set.univ := fun t => by
  rw [bigSep_W7, bigSep_W7]
  dsimp only
  rw [show (dat7 n V c).Φ t.succ = (dat7 n V c).Φ t.castSucc from rfl,
    show (dat7 n V c).owesAt none t.succ = (dat7 n V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [show (dat7 n V c).before 0 t d0 = blkOf cfg7 V c 0 t from
      (dat7 n V c).before_in_eq_fetched 0 rfl (fun _ => rfl) (fun _ _ _ => rfl) (fun _ => rfl) t d0,
    show (dat7 n V c).before 1 t d1 = blkOf cfg7 V c 1 t from
      (dat7 n V c).before_in_eq_fetched 1 rfl (fun _ => rfl) (fun _ _ _ => rfl) (fun _ => rfl) t d1,
    show (dat7 n V c).before 2 t d2 = blkOf cfg7 V c 2 t from
      (dat7 n V c).before_in_eq_fetched 2 rfl (fun _ => rfl) (fun _ _ _ => rfl) (fun _ => rfl) t d2,
    show (dat7 n V c).before 3 t d3 = blkOf cfg7 V c 3 t from
      (dat7 n V c).before_in_eq_fetched 3 rfl (fun _ => rfl) (fun _ _ _ => rfl) (fun _ => rfl) t d3,
    show (dat7 n V c).before 4 t d4 = blkOf cfg7 V c 4 t from
      (dat7 n V c).before_in_eq_fetched 4 rfl (fun _ => rfl) (fun _ _ _ => rfl) (fun _ => rfl) t d4]
  rw [show defs₀ (F := F) Proc.tc 7 (t, cfg7.slots t) = bodyAt7 t from rfl]
  unfold bodyAt7
  rw [mlp_body7]
  have h := (mlp_owns (F := F) c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) (st7_3 t) (hstage7_3 ((cfg7.slots t 3).cast nbuf7_3))
    (st7_4 t) (hstage7_4 ((cfg7.slots t 4).cast nbuf7_4)) (st7_5 t) (hstage7_5 ((cfg7.slots t 5).cast nbuf7_5))
    (blkOf cfg7 V c 0 t) (blkOf cfg7 V c 1 t) (blkOf cfg7 V c 2 t) (blkOf cfg7 V c 3 t) (blkOf cfg7 V c 4 t)
    ((dat7 n V c).before 5 t d5) Set.univ
    (fun _ => iprop((dat7 n V c).Φ t.castSucc ∗ (dat7 n V c).owesAt none t.castSucc
      ∗ owns (c : Thread nD τ) (st7_0 t) fullShare (Val := Elt F) (blkOf cfg7 V c 0 t) ∗ owns (c : Thread nD τ) (st7_1 t) fullShare (Val := Elt F) (blkOf cfg7 V c 1 t)
      ∗ owns (c : Thread nD τ) (st7_2 t) fullShare (Val := Elt F) (blkOf cfg7 V c 2 t) ∗ owns (c : Thread nD τ) (st7_3 t) fullShare (Val := Elt F) (blkOf cfg7 V c 3 t)
      ∗ owns (c : Thread nD τ) (st7_4 t) fullShare (Val := Elt F) (blkOf cfg7 V c 4 t) ∗ owns (c : Thread nD τ) (st7_5 t) fullShare (Val := Elt F)
        (mlpOut (blkOf cfg7 V c 0 t) (blkOf cfg7 V c 1 t) (blkOf cfg7 V c 2 t) (blkOf cfg7 V c 3 t) (blkOf cfg7 V c 4 t)))))
  iapply h
  isplitl [H0]; · iexact H0
  isplitl [H1]; · iexact H1
  isplitl [H2]; · iexact H2
  isplitl [H3]; · iexact H3
  isplitl [H4]; · iexact H4
  isplitl [H5]; · iexact H5
  iintro Hp
  isplitl [HΦ]; · iexact HΦ
  isplitl [Howes]; · iexact Howes
  iexact Hp

/-- The four pipelines' proof data, at one valuation and one number of calls made. -/
def pdats (n : ℕ) (V : Dev nD → Valuation τ sig (Elt F)) :
    (p : Fin 4) → (c : Dev nD) → Dat τ (Elt F) (HIx 4) ℕ UU ℕ (Pipeline.pin (pcfgs (F := F)) adm p) c
  | 0 => dat1 n V
  | 1 => dat3 n V
  | 2 => dat5 n V
  | 3 => dat7 n V

/-- What the launch decides of each of the four. -/
theorem kit : (p : Fin 4) → Pipeline.PLaunchFacts (nD := nD) (τ := τ) (pcfgs (F := F)) p
  | 0 => launch1.toP
  | 1 => launch3.toP
  | 2 => launch5.toP
  | 3 => launch7.toP

/-- The bodies' obligations. -/
theorem bodies (n : ℕ) (V : Dev nD → Valuation τ sig (Elt F)) (c : Dev nD) :
    (p : Fin 4) → BodyObligationLoose (pdats n V p c) (defs₀ (F := F)) 𝒱₀ none Set.univ
  | 0 => (body1 n V c).loose
  | 1 => (body3 n V c).loose
  | 2 => (body5 n V c).loose
  | 3 => (body7 n V c).loose

theorem pdats_A (n : ℕ) (V : Dev nD → Valuation τ sig (Elt F)) (c : Dev nD) :
    (p : Fin 4) → ∀ w, (pdats n V p c).arrAt w 0 = V c (Proc.devRef .tc (Pipeline.arrRef (Pipeline.pin (pcfgs (F := F)) adm p).spec w))
  | 0 => fun _ => rfl
  | 1 => fun _ => rfl
  | 2 => fun _ => rfl
  | 3 => fun _ => rfl

theorem pdats_share (n : ℕ) (V : Dev nD → Valuation τ sig (Elt F)) (c : Dev nD) :
    (p : Fin 4) → ∀ w, (pdats n V p c).share w = fullShare
  | 0 => (dat1 n V c).share_full fun _ => rfl
  | 1 => (dat3 n V c).share_full fun _ => rfl
  | 2 => (dat5 n V c).share_full fun _ => rfl
  | 3 => (dat7 n V c).share_full fun _ => rfl

theorem pdats_owed (n : ℕ) (V : Dev nD → Valuation τ sig (Elt F)) (c : Dev nD) :
    (p : Fin 4) → ∀ t, (pdats n V p c).owed t = (K (F := F)).Otc c n
  | 0 => fun _ => rfl
  | 1 => fun _ => rfl
  | 2 => fun _ => rfl
  | 3 => fun _ => rfl

theorem pdats_rec (n : ℕ) (V : Dev nD → Valuation τ sig (Elt F)) (c : Dev nD) :
    (p : Fin 4) → ∀ t, (pdats n V p c).recorded t = recd (F := F) n c
  | 0 => fun _ => rfl
  | 1 => fun _ => rfl
  | 2 => fun _ => rfl
  | 3 => fun _ => rfl

theorem dat1_Φ (n : ℕ) (V : Dev nD → Valuation τ sig (Elt F)) (c : Dev nD) (t : Fin (cfg1.N + 1)) : (dat1 n V c).Φ t
    = Pipeline.scopedRest (Ix := HIx 4) (Name := ℕ) (U := UU) (Lvl := ℕ) (Val := Elt F) (Pipeline.pin (pcfgs (F := F)) adm 0).spec c := by
  show Pipeline.scopedRest (Ix := HIx 4) (Name := ℕ) (U := UU) (Lvl := ℕ) (Val := Elt F) (cfgs (0 : Fin 4)).spec c = _
  rfl

theorem dat3_Φ (n : ℕ) (V : Dev nD → Valuation τ sig (Elt F)) (c : Dev nD) (t : Fin (cfg3.N + 1)) : (dat3 n V c).Φ t
    = Pipeline.scopedRest (Ix := HIx 4) (Name := ℕ) (U := UU) (Lvl := ℕ) (Val := Elt F) (Pipeline.pin (pcfgs (F := F)) adm 1).spec c := by
  show Pipeline.scopedRest (Ix := HIx 4) (Name := ℕ) (U := UU) (Lvl := ℕ) (Val := Elt F) (cfgs (1 : Fin 4)).spec c = _
  rfl

theorem dat5_Φ (n : ℕ) (V : Dev nD → Valuation τ sig (Elt F)) (c : Dev nD) (t : Fin (cfg5.N + 1)) : (dat5 n V c).Φ t
    = Pipeline.scopedRest (Ix := HIx 4) (Name := ℕ) (U := UU) (Lvl := ℕ) (Val := Elt F) (Pipeline.pin (pcfgs (F := F)) adm 2).spec c := by
  show Pipeline.scopedRest (Ix := HIx 4) (Name := ℕ) (U := UU) (Lvl := ℕ) (Val := Elt F) (cfgs (2 : Fin 4)).spec c = _
  rfl

theorem dat7_Φ (n : ℕ) (V : Dev nD → Valuation τ sig (Elt F)) (c : Dev nD) (t : Fin (cfg7.N + 1)) : (dat7 n V c).Φ t
    = Pipeline.scopedRest (Ix := HIx 4) (Name := ℕ) (U := UU) (Lvl := ℕ) (Val := Elt F) (Pipeline.pin (pcfgs (F := F)) adm 3).spec c := by
  show Pipeline.scopedRest (Ix := HIx 4) (Name := ℕ) (U := UU) (Lvl := ℕ) (Val := Elt F) (cfgs (3 : Fin 4)).spec c = _
  rfl

theorem pdats_Φ (n : ℕ) (V : Dev nD → Valuation τ sig (Elt F)) (c : Dev nD) (p : Fin 4) : ∀ t, (pdats n V p c).Φ t
    = Pipeline.scopedRest (Ix := HIx 4) (Name := ℕ) (U := UU) (Lvl := ℕ) (Val := Elt F) (Pipeline.pin (pcfgs (F := F)) adm p).spec c := by
  rcases p with ⟨_ | _ | _ | _ | p, hp⟩
  · exact fun t => (rfl : _ = (dat1 n V c).Φ t).trans (dat1_Φ n V c t)
  · exact fun t => (rfl : _ = (dat3 n V c).Φ t).trans (dat3_Φ n V c t)
  · exact fun t => (rfl : _ = (dat5 n V c).Φ t).trans (dat5_Φ n V c t)
  · exact fun t => (rfl : _ = (dat7 n V c).Φ t).trans (dat7_Φ n V c t)
  · omega

/-- The core owing the calls from `n` on, its waits so far at or below the last call's levels. -/
abbrev owesB (n : ℕ) (c : Dev nD) : sProp 𝕄 :=
  iprop(∃ W, ⌜(K (F := F)).WBelow (SparseCore.T c) W (8 * n)⌝ ∗ owes (SparseCore.T c) ((K (F := F)).Otc c n) W)

theorem pre_none (p : Fin 4) : ((pcfgs (F := F)) p).pre.K = 0 := rfl

/-- Dense kernel `p` as a region: entered and left with the core's buffers held and the calls from `n` on owed. -/
def seg (n : ℕ) (V : Dev nD → Valuation τ sig (Elt F)) (p : Fin 4) :
    Pipeline.RegionSeg (pcfgs (F := F)) adm (pdats n V) none (defs₀ (F := F)) 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody c := bodies n V c p
  hwaits c := Pipeline.cellsWaits_of_cut (Pipeline.pin (pcfgs (F := F)) adm) (pdats n V) none p c 0 ((K (F := F)).Otc c n)
    (pdats_owed n V c p) (fun _ _ => Finset.mem_univ _) (fun _ _ => le_rfl)
    (fun g i h => ⟨Finset.mem_univ _, lt_of_lt_of_le (Nat.succ_pos _) (SparseCore.Cfg.lev_of_Otc_pos h)⟩)
  pre c := iprop(StableHlo.held (c.tc : Thread nD τ) (Pipeline.ucRefs τ sig) (V c) ∗ owesB n c)
  post c := iprop(StableHlo.held (c.tc : Thread nD τ) (Pipeline.ucRefs τ sig) (Pipeline.afterRegion (pdats n V p c) (V c)) ∗ owesB n c)
  X _ := BI.emp
  Y _ := BI.emp
  Z c := StableHlo.held (c.tc : Thread nD τ) (Pipeline.ucRefs τ sig \ Pipeline.arrRefs (pcfgs (F := F) p).spec) (V c)
  hentry c := by
    have hS : Pipeline.arrRefs (τ := τ) (pcfgs (F := F) p).spec ⊆ Pipeline.ucRefs τ sig := Pipeline.arrRefs_sub_ucRefs _ ((kit p : Pipeline.PLaunchFacts (pcfgs (F := F)) p)).win.arr_unscoped
    rw [Pipeline.ownSems0_none, Pipeline.prefHeld_of_none _ (pre_none (F := F) p),
      StableHlo.held_sub_split (c.tc : Thread nD τ) hS (V c),
      Pipeline.arrays_held (pcfgs (F := F)) adm (pdats n V) p (kit p) c (pdats_share n V c p) _ (V c) (pdats_A n V c p)]
    iintro ⟨⟨⟨Ha, Hu⟩, HO⟩, -, -⟩
    imodintro
    isplitl [Ha]; · iexact Ha
    isplitr; · iempintro
    isplitl [HO]
    · unfold Dat.owesAt Pipeline.owesWithin Dat.bound
      rw [pdats_owed, pdats_rec]
      icases HO with ⟨%W, %hW, HO⟩; iexists W; isplitr; · ipureintro; exact fun q hq => Or.inl (hW q hq)
      iexact HO
    isplitr; · iempintro
    iexact Hu
  hin c := by
    rw [pdats_Φ]
    iintro ⟨-, -, Hr⟩
    iexact Hr
  hout c := by
    rw [pdats_Φ, Pipeline.ownSems0_none]
    iintro Hr
    isplitr; · iempintro
    isplitr; · iempintro
    iexact Hr
  hexit c := by
    have hS : Pipeline.arrRefs (τ := τ) (pcfgs (F := F) p).spec ⊆ Pipeline.ucRefs τ sig := Pipeline.arrRefs_sub_ucRefs _ ((kit p : Pipeline.PLaunchFacts (pcfgs (F := F)) p)).win.arr_unscoped
    rw [StableHlo.held_sub_split (c.tc : Thread nD τ) hS,
      StableHlo.held_congr (c.tc : Thread nD τ) (Pipeline.afterRegion_off (pdats n V p c) (V c) (Pipeline.ucRefs τ sig)),
      Pipeline.arrays_held (pcfgs (F := F)) adm (pdats n V) p (kit p) c (pdats_share n V c p) _ (Pipeline.afterRegion (pdats n V p c) (V c))
        (fun w => (Pipeline.afterRegion_arr (pdats n V p c) (V c) ((kit p : Pipeline.PLaunchFacts (pcfgs (F := F)) p)).win.arr_inj w).symm)]
    iintro ⟨Ha, HO, -, Hu⟩
    imodintro
    isplitl [Ha Hu]
    · isplitl [Ha]; · iexact Ha
      iexact Hu
    unfold Dat.owesAt Pipeline.owesWithin Dat.bound
    rw [pdats_owed, pdats_rec]
    icases HO with ⟨%W, %hW, HO⟩; iexists W; isplitr
    · ipureintro
      intro q hq
      rcases hW hq with h | ⟨w, s, rfl⟩
      · exact h
      · exact Nat.zero_le _
    iexact HO

end Cert.Proof

end
-- ==== Proof.Main.lean ====
/-
  The run of @main on the TensorCore: its host operations as four lists, what its buffers hold after each step, one slice's
  step — the call to the SparseCores and the dense kernel — and the program's run from any launch memory.
-/
module

public import proofs.«01_k».proof.Proof.Calls
public import proofs.«01_k».proof.Proof.Dense
public import Idealize.ShloMosaic.Lib.StableHlo.RunRead

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## The host operations -/

/-- The host operations before the first slice: the two weights and the bias made ready for the dense kernels. -/
def pre : List (HloOp τ sig (Elt F)) :=
   [StableHlo.unary main_arg2 main_v0 ((transpose S1280x1024 [1, 0] · transposes_S1024x1280_S1280x1024_1_0) : (⟨S1024x1280, .f32⟩ : BufTy).Contents (Elt F) → (⟨S1280x1024, .f32⟩ : BufTy).Contents (Elt F)),
    StableHlo.unary main_v0 main_v1 ((truncf .bf16 · bitsLt_bf16_f32) : (⟨S1280x1024, .f32⟩ : BufTy).Contents (Elt F) → (⟨S1280x1024, .bf16⟩ : BufTy).Contents (Elt F)),
    StableHlo.unary main_arg3 main_v2 ((truncf .bf16 · bitsLt_bf16_f32) : (⟨S1024, .f32⟩ : BufTy).Contents (Elt F) → (⟨S1024, .bf16⟩ : BufTy).Contents (Elt F)),
    StableHlo.reshape main_v2 main_v3 (rfl : (.bf16 : EltTy) = .bf16) shapeCasts_S1024_S1x1024,
    StableHlo.nullary main_cst (constant S_ .f32 0x00000000#32),
    StableHlo.unary main_cst main_v4 (broadcastInDim S1024x128 ![] bcast_S_S1024x128 : (⟨S_, .f32⟩ : BufTy).Contents (Elt F) → (⟨S1024x128, .f32⟩ : BufTy).Contents (Elt F)),
    StableHlo.reshape main_arg4 main_v5 (rfl : (.f32 : EltTy) = .f32) shapeCasts_S1x1024_S1024,
    StableHlo.nullary main_c (constantI S_ 32 0#32),
    StableHlo.unary main_c main_v6 (broadcastInDim S1 ![] bcast_S_S1 : (⟨S_, .i32⟩ : BufTy).Contents (Elt F) → (⟨S1, .i32⟩ : BufTy).Contents (Elt F)),
    StableHlo.ternary main_v4 main_v6 main_v5 main_v7 ((fun x i u => Host.scatter scatter_S1024x128_S1_S1024_0_1_1_0 (fun _ b => b) x i u) : (⟨S1024x128, .f32⟩ : BufTy).Contents (Elt F) → (⟨S1, .i32⟩ : BufTy).Contents (Elt F) → (⟨S1024, .f32⟩ : BufTy).Contents (Elt F) → (⟨S1024x128, .f32⟩ : BufTy).Contents (Elt F)),
    StableHlo.unary main_v7 main_v8 ((truncf .bf16 · bitsLt_bf16_f32) : (⟨S1024x128, .f32⟩ : BufTy).Contents (Elt F) → (⟨S1024x128, .bf16⟩ : BufTy).Contents (Elt F)),
    StableHlo.reshape main_arg5 main_v9 (rfl : (.f32 : EltTy) = .f32) shapeCasts_S1_S1x1]

/-- Slice `q`'s index list: its rows of the lookups, transposed and flattened. -/
def sl : Fin 4 → List (HloOp τ sig (Elt F))
  | 0 => [StableHlo.unary main_arg0 main_v10 ((extractStridedSlice S4096x10 ![0, 0] · slices_S16384x10_S4096x10_0_0) : (⟨S16384x10, .i32⟩ : BufTy).Contents (Elt F) → (⟨S4096x10, .i32⟩ : BufTy).Contents (Elt F)),
    StableHlo.unary main_v10 main_v11 ((transpose S10x4096 [1, 0] · transposes_S4096x10_S10x4096_1_0) : (⟨S4096x10, .i32⟩ : BufTy).Contents (Elt F) → (⟨S10x4096, .i32⟩ : BufTy).Contents (Elt F)),
    StableHlo.reshape main_v11 main_v12 (rfl : (.i32 : EltTy) = .i32) shapeCasts_S10x4096_S40960]
  | 1 => [StableHlo.unary main_arg0 main_v16 ((extractStridedSlice S4096x10 ![4096, 0] · slices_S16384x10_S4096x10_4096_0) : (⟨S16384x10, .i32⟩ : BufTy).Contents (Elt F) → (⟨S4096x10, .i32⟩ : BufTy).Contents (Elt F)),
    StableHlo.unary main_v16 main_v17 ((transpose S10x4096 [1, 0] · transposes_S4096x10_S10x4096_1_0) : (⟨S4096x10, .i32⟩ : BufTy).Contents (Elt F) → (⟨S10x4096, .i32⟩ : BufTy).Contents (Elt F)),
    StableHlo.reshape main_v17 main_v18 (rfl : (.i32 : EltTy) = .i32) shapeCasts_S10x4096_S40960]
  | 2 => [StableHlo.unary main_arg0 main_v22 ((extractStridedSlice S4096x10 ![8192, 0] · slices_S16384x10_S4096x10_8192_0) : (⟨S16384x10, .i32⟩ : BufTy).Contents (Elt F) → (⟨S4096x10, .i32⟩ : BufTy).Contents (Elt F)),
    StableHlo.unary main_v22 main_v23 ((transpose S10x4096 [1, 0] · transposes_S4096x10_S10x4096_1_0) : (⟨S4096x10, .i32⟩ : BufTy).Contents (Elt F) → (⟨S10x4096, .i32⟩ : BufTy).Contents (Elt F)),
    StableHlo.reshape main_v23 main_v24 (rfl : (.i32 : EltTy) = .i32) shapeCasts_S10x4096_S40960]
  | 3 => [StableHlo.unary main_arg0 main_v28 ((extractStridedSlice S4096x10 ![12288, 0] · slices_S16384x10_S4096x10_12288_0) : (⟨S16384x10, .i32⟩ : BufTy).Contents (Elt F) → (⟨S4096x10, .i32⟩ : BufTy).Contents (Elt F)),
    StableHlo.unary main_v28 main_v29 ((transpose S10x4096 [1, 0] · transposes_S4096x10_S10x4096_1_0) : (⟨S4096x10, .i32⟩ : BufTy).Contents (Elt F) → (⟨S10x4096, .i32⟩ : BufTy).Contents (Elt F)),
    StableHlo.reshape main_v29 main_v30 (rfl : (.i32 : EltTy) = .i32) shapeCasts_S10x4096_S40960]

/-- Slice `q`'s gathered rows, reshaped. -/
def md : Fin 4 → List (HloOp τ sig (Elt F))
  | 0 => [StableHlo.reshape main_v13 main_v14 (rfl : (.f32 : EltTy) = .f32) shapeCasts_S40960x128_S10x4096x128]
  | 1 => [StableHlo.reshape main_v19 main_v20 (rfl : (.f32 : EltTy) = .f32) shapeCasts_S40960x128_S10x4096x128]
  | 2 => [StableHlo.reshape main_v25 main_v26 (rfl : (.f32 : EltTy) = .f32) shapeCasts_S40960x128_S10x4096x128]
  | 3 => [StableHlo.reshape main_v31 main_v32 (rfl : (.f32 : EltTy) = .f32) shapeCasts_S40960x128_S10x4096x128]

/-- The four results put together. -/
def fin : List (HloOp τ sig (Elt F)) :=
  [StableHlo.nary ![main_v15, main_v21, main_v27, main_v33] main_v34 (fun u => (concatenate S16384 0 [⟨S4096, (u 0 : (⟨S4096, .f32⟩ : BufTy).Contents (Elt F))⟩, ⟨S4096, (u 1 : (⟨S4096, .f32⟩ : BufTy).Contents (Elt F))⟩, ⟨S4096, (u 2 : (⟨S4096, .f32⟩ : BufTy).Contents (Elt F))⟩, ⟨S4096, (u 3 : (⟨S4096, .f32⟩ : BufTy).Contents (Elt F))⟩] concatenates_S4096_S4096_S4096_S4096_S16384_d0 : (⟨S16384, .f32⟩ : BufTy).Contents (Elt F)))]

/-- Slice `q` of @main, then `k`. -/
def slice (d : Dev nD) (q : Fin 4) {α : Type} (k : Prog (TpuEff nD τ sig (Elt F) (SparseCore.Sig (ΛP (F := F)) 4) .tc) α) :
    Prog (TpuEff nD τ sig (Elt F) (SparseCore.Sig (ΛP (F := F)) 4) .tc) α :=
  StableHlo.seq (sl q) >>= fun _ => (K (F := F)).run d q >>= fun _ => StableHlo.seq (md q) >>= fun _ =>
    SparseCore.liftProg (Prog.lift (.customCall (Pipeline.entry q) ())) >>= fun _ => k

/-- @main is its first operations, the four slices, and the last. -/
theorem main_eq (d : Dev nD) :
    main (F := F) d = (StableHlo.seq pre >>= fun _ => slice d 0 (slice d 1 (slice d 2 (slice d 3 (StableHlo.seq fin >>= fun _ => pure ⟨⟩))))) := by
  simp only [main, slice, pre, sl, md, fin, StableHlo.seq, bind_assoc, pure_bind]
  rfl

/-! ## What the buffers hold after each step -/

/-- A buffer of the TensorCore, as the device's. -/
abbrev dr (r : Ref sig .tc) : DevRef τ sig := Proc.devRef .tc r

/-- After call `q`: its output at the gather of its operands. -/
def put (q : Fin 4) (V : Valuation τ sig (Elt F)) : Valuation τ sig (Elt F) :=
  match q with
  | 0 => Function.update V (dr main_v13) (gath (V (dr main_arg1)) (V (dr main_v12)))
  | 1 => Function.update V (dr main_v19) (gath (V (dr main_arg1)) (V (dr main_v18)))
  | 2 => Function.update V (dr main_v25) (gath (V (dr main_arg1)) (V (dr main_v24)))
  | 3 => Function.update V (dr main_v31) (gath (V (dr main_arg1)) (V (dr main_v30)))

/-- After slice `q` of @main. -/
def stepV (q : Fin 4) (V : Valuation τ sig (Elt F)) (d : Dev nD) : Valuation τ sig (Elt F) :=
  Pipeline.afterRegion (pdats (q.val + 1) (fun _ => StableHlo.after (md q) (put q (StableHlo.after (sl q) V))) q d)
    (StableHlo.after (md q) (put q (StableHlo.after (sl q) V)))

/-- The buffers call `q` is given: the table, the index list, the output. -/
def callRefs : Fin 4 → Finset (DevRef τ sig)
  | 0 => {dr main_arg1, dr main_v12, dr main_v13}
  | 1 => {dr main_arg1, dr main_v18, dr main_v19}
  | 2 => {dr main_arg1, dr main_v24, dr main_v25}
  | 3 => {dr main_arg1, dr main_v30, dr main_v31}

variable (Tb : Dev nD → S100000x128.Idx → Elt F .f32) (ix : Fin 4 → Dev nD → S40960.Idx → BitVec 32)
  (o₀ : Fin 4 → Dev nD → S40960x128.Idx → Elt F .f32)

/-- Call `q`'s operands hold what its payload says. -/
def CallOK (q : Fin 4) (d : Dev nD) (V : Valuation τ sig (Elt F)) : Prop :=
  match q with
  | 0 => V (dr main_arg1) = Tb d ∧ V (dr main_v12) = ix 0 d ∧ V (dr main_v13) = o₀ 0 d
  | 1 => V (dr main_arg1) = Tb d ∧ V (dr main_v18) = ix 1 d ∧ V (dr main_v19) = o₀ 1 d
  | 2 => V (dr main_arg1) = Tb d ∧ V (dr main_v24) = ix 2 d ∧ V (dr main_v25) = o₀ 2 d
  | 3 => V (dr main_arg1) = Tb d ∧ V (dr main_v30) = ix 3 d ∧ V (dr main_v31) = o₀ 3 d

omit [FloatOps F] in
/-- Three buffers held, one by one. -/
theorem held3 (d : Dev nD) (a i o : Ref sig .tc) (h1 : dr a ∉ ({dr i, dr o} : Finset (DevRef τ sig))) (h2 : dr i ∉ ({dr o} : Finset (DevRef τ sig)))
    (V : Valuation τ sig (Elt F)) :
    (StableHlo.held (d.tc : Thread nD τ) {dr a, dr i, dr o} V : sProp 𝕄)
      = iprop(held (SparseCore.T d) a (V (dr a)) ∗ held (SparseCore.T d) i (V (dr i)) ∗ held (SparseCore.T d) o (V (dr o))) := by
  unfold StableHlo.held
  rw [SparseCore.bigSep_insert' h1, SparseCore.bigSep_insert' h2, bigSep_singleton]

omit [FloatOps F] in
/-- A buffer of the program's is held between its steps. -/
theorem mem_uc (r : Ref sig .tc) (h : r.isScoped = false) : dr r ∈ Pipeline.ucRefs τ sig :=
  Finset.mem_filter.mpr ⟨StableHlo.devRef_mem_tcRefs _, fun h' => Bool.false_ne_true (h.symm.trans h')⟩

omit [FloatOps F] in
theorem callRefs_sub (q : Fin 4) : callRefs q ⊆ Pipeline.ucRefs τ sig := by
  have h3 : ∀ (a i o : Ref sig .tc), a.isScoped = false → i.isScoped = false → o.isScoped = false →
      ({dr a, dr i, dr o} : Finset (DevRef τ sig)) ⊆ Pipeline.ucRefs τ sig := by
    intro a i o ha hi ho b hb
    rcases Finset.mem_insert.mp hb with rfl | hb
    · exact mem_uc a ha
    rcases Finset.mem_insert.mp hb with rfl | hb
    · exact mem_uc i hi
    rw [Finset.mem_singleton.mp hb]; exact mem_uc o ho
  match q with
  | 0 => exact h3 _ _ _ rfl rfl rfl
  | 1 => exact h3 _ _ _ rfl rfl rfl
  | 2 => exact h3 _ _ _ rfl rfl rfl
  | 3 => exact h3 _ _ _ rfl rfl rfl

/-- Call `q`'s operands, held. -/
theorem callP_held (q : Fin 4) (d : Dev nD) (V : Valuation τ sig (Elt F)) (h : CallOK Tb ix o₀ q d V) :
    (StableHlo.held (d.tc : Thread nD τ) (callRefs q) V : sProp 𝕄) = callP Tb ix q d (o₀ q d) := by
  match q, h with
  | 0, h =>
    obtain ⟨h1, h2, h3⟩ := h
    exact (held3 d main_arg1 main_v12 main_v13 (by decide) (by decide) V).trans (by rw [h1, h2, h3]; rfl)
  | 1, h =>
    obtain ⟨h1, h2, h3⟩ := h
    exact (held3 d main_arg1 main_v18 main_v19 (by decide) (by decide) V).trans (by rw [h1, h2, h3]; rfl)
  | 2, h =>
    obtain ⟨h1, h2, h3⟩ := h
    exact (held3 d main_arg1 main_v24 main_v25 (by decide) (by decide) V).trans (by rw [h1, h2, h3]; rfl)
  | 3, h =>
    obtain ⟨h1, h2, h3⟩ := h
    exact (held3 d main_arg1 main_v30 main_v31 (by decide) (by decide) V).trans (by rw [h1, h2, h3]; rfl)

/-- The same once it has run. -/
theorem callP_put (q : Fin 4) (d : Dev nD) (V : Valuation τ sig (Elt F)) (h : CallOK Tb ix o₀ q d V) :
    (StableHlo.held (d.tc : Thread nD τ) (callRefs q) (put q V) : sProp 𝕄) = callP Tb ix q d (gath (Tb d) (ix q d)) := by
  match q, h with
  | 0, h =>
    obtain ⟨h1, h2, -⟩ := h
    refine (held3 d main_arg1 main_v12 main_v13 (by decide) (by decide) (put 0 V)).trans ?_
    rw [show put 0 V (dr main_arg1) = Tb d from (Function.update_of_ne (by decide) _ _).trans h1,
      show put 0 V (dr main_v12) = ix 0 d from (Function.update_of_ne (by decide) _ _).trans h2,
      show put 0 V (dr main_v13) = gath (Tb d) (ix 0 d) from by
        show Function.update V (dr main_v13) (gath (V (dr main_arg1)) (V (dr main_v12))) (dr main_v13) = _
        rw [Function.update_self, h1, h2]]
    rfl
  | 1, h =>
    obtain ⟨h1, h2, -⟩ := h
    refine (held3 d main_arg1 main_v18 main_v19 (by decide) (by decide) (put 1 V)).trans ?_
    rw [show put 1 V (dr main_arg1) = Tb d from (Function.update_of_ne (by decide) _ _).trans h1,
      show put 1 V (dr main_v18) = ix 1 d from (Function.update_of_ne (by decide) _ _).trans h2,
      show put 1 V (dr main_v19) = gath (Tb d) (ix 1 d) from by
        show Function.update V (dr main_v19) (gath (V (dr main_arg1)) (V (dr main_v18))) (dr main_v19) = _
        rw [Function.update_self, h1, h2]]
    rfl
  | 2, h =>
    obtain ⟨h1, h2, -⟩ := h
    refine (held3 d main_arg1 main_v24 main_v25 (by decide) (by decide) (put 2 V)).trans ?_
    rw [show put 2 V (dr main_arg1) = Tb d from (Function.update_of_ne (by decide) _ _).trans h1,
      show put 2 V (dr main_v24) = ix 2 d from (Function.update_of_ne (by decide) _ _).trans h2,
      show put 2 V (dr main_v25) = gath (Tb d) (ix 2 d) from by
        show Function.update V (dr main_v25) (gath (V (dr main_arg1)) (V (dr main_v24))) (dr main_v25) = _
        rw [Function.update_self, h1, h2]]
    rfl
  | 3, h =>
    obtain ⟨h1, h2, -⟩ := h
    refine (held3 d main_arg1 main_v30 main_v31 (by decide) (by decide) (put 3 V)).trans ?_
    rw [show put 3 V (dr main_arg1) = Tb d from (Function.update_of_ne (by decide) _ _).trans h1,
      show put 3 V (dr main_v30) = ix 3 d from (Function.update_of_ne (by decide) _ _).trans h2,
      show put 3 V (dr main_v31) = gath (Tb d) (ix 3 d) from by
        show Function.update V (dr main_v31) (gath (V (dr main_arg1)) (V (dr main_v30))) (dr main_v31) = _
        rw [Function.update_self, h1, h2]]
    rfl

omit [FloatOps F] in
/-- A call writes nothing but its output. -/
theorem put_off (q : Fin 4) (V : Valuation τ sig (Elt F)) : ∀ b ∈ Pipeline.ucRefs τ sig \ callRefs q, put q V b = V b := by
  have h3 : ∀ (a i o : Ref sig .tc) (f : o.ty.Contents (Elt F)), ∀ b ∈ Pipeline.ucRefs τ sig \ ({dr a, dr i, dr o} : Finset (DevRef τ sig)),
      Function.update V (dr o) f b = V b := fun a i o f b hb =>
    Function.update_of_ne (fun e => (Finset.mem_sdiff.mp hb).2 (by rw [e]; simp)) _ _
  match q with
  | 0 => exact h3 main_arg1 main_v12 main_v13 _
  | 1 => exact h3 main_arg1 main_v18 main_v19 _
  | 2 => exact h3 main_arg1 main_v24 main_v25 _
  | 3 => exact h3 main_arg1 main_v30 main_v31 _

/-! ## One slice of @main -/

/-- The TensorCore's state before call `n` is what it owes and the rest. -/
theorem tcSt_owes (d : Dev nD) (n : ℕ) : ∃ R : sProp 𝕄, (K (F := F)).tcSt EH d n = iprop(owesB n d ∗ R) := ⟨_, rfl⟩

omit [FloatOps F] in
/-- A host operation touches buffers held between the steps only. -/
theorem bufs_uc (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

theorem bufs_md (q : Fin 4) : ∀ op ∈ md (F := F) q, op.bufs ⊆ Pipeline.ucRefs τ sig := by
  match q with | 0 | 1 | 2 | 3 => intro op h; refine bufs_uc op ?_; fin_cases h; simp

theorem bufs_sl (q : Fin 4) : ∀ op ∈ sl (F := F) q, op.bufs ⊆ Pipeline.ucRefs τ sig := by
  match q with | 0 | 1 | 2 | 3 => intro op h; refine bufs_uc op ?_; fin_cases h <;> simp

theorem fresh_md (q : Fin 4) : ∀ op ∈ md (F := F) q, op.fresh = ∅ := by
  match q with | 0 | 1 | 2 | 3 => intro op h; fin_cases h; rfl

theorem fresh_sl (q : Fin 4) : ∀ op ∈ sl (F := F) q, op.fresh = ∅ := by
  match q with | 0 | 1 | 2 | 3 => intro op h; fin_cases h <;> rfl

variable [∀ e, Nonempty (Elt F e)]

set_option backward.isDefEq.respectTransparency.types false in
/-- The dense kernel's call in slice `q`. -/
theorem dense_wp (d : Dev nD) (q : Fin 4) (W : Valuation τ sig (Elt F)) (Q : PUnit → sProp 𝕄) :
    iprop((iprop(boundary (d.tc : Thread nD τ) ∗ (StableHlo.held (d.tc : Thread nD τ) (Pipeline.ucRefs τ sig)
            (Pipeline.afterRegion (pdats (q.val + 1) (fun _ => W) q d) W) ∗ owesB (q.val + 1) d)) -∗ Q ⟨⟩)
        ∗ boundary (d.tc : Thread nD τ)
        ∗ (StableHlo.held (d.tc : Thread nD τ) (Pipeline.ucRefs τ sig) W ∗ owesB (q.val + 1) d)
        ∗ levAts (K (F := F)).L (K (F := F)).lev
        ∗ Pipeline.cellsGhost (Pipeline.pin (pcfgs (F := F)) adm) EP q d ∗ Pipeline.toksInit (Pipeline.pin (pcfgs (F := F)) adm) EP q d)
      ⊢ wp frame (wpE ((K (F := F)).defs D) 𝒱 (SparseCore.T d) none) Set.univ
          (SparseCore.liftProg (Prog.lift (.customCall (Pipeline.entry q) ()))) Q := by
  have h := (Pipeline.RegionSeg.wp (pcfgs (F := F)) adm (pdats (q.val + 1) (fun _ => W)) none ((kit (F := F) 0).cellOf_inj adm) EP defs₀ 𝒱₀
    (K (F := F)).L (K (F := F)).lev (seg (q.val + 1) (fun _ => W) q) d none (fun _ h => nomatch h) (fun x => .ret x) Q).trans
      ((K (F := F)).wp_liftProg D 𝒱 (SparseCore.T d) Set.univ none (Prog.lift (.customCall (Pipeline.entry q) ())) Q)
  refine .trans (sep_mono_left ?_) h
  iintro Hk H
  rw [wp_ret]; imodintro
  iapply Hk; iexact H

set_option backward.isDefEq.respectTransparency.types false in
/-- Slice `q`: the calls run one after the other. -/
theorem slice_wp (κ) (d : Dev nD) (q : Fin 4) (V : Valuation τ sig (Elt F)) (hV : CallOK Tb ix o₀ q d (StableHlo.after (sl q) V))
    {α : Type} (k : Prog (TpuEff nD τ sig (Elt F) (SparseCore.Sig (ΛP (F := F)) 4) .tc) α) (Q : α → sProp 𝕄) :
    iprop((K (F := F)).ctx EH (P Tb ix o₀) κ ∗ (K (F := F)).tcSt EH d q.val ∗ boundary (d.tc : Thread nD τ)
      ∗ StableHlo.held (d.tc : Thread nD τ) (Pipeline.ucRefs τ sig) V
      ∗ Pipeline.cellsGhost (Pipeline.pin (pcfgs (F := F)) adm) EP q d ∗ Pipeline.toksInit (Pipeline.pin (pcfgs (F := F)) adm) EP q d
      ∗ (((K (F := F)).tcSt EH d (q.val + 1) ∗ boundary (d.tc : Thread nD τ)
          ∗ StableHlo.held (d.tc : Thread nD τ) (Pipeline.ucRefs τ sig) (stepV q V d))
          -∗ wp frame (wpE ((K (F := F)).defs D) 𝒱 (SparseCore.T d) none) Set.univ k Q))
      ⊢ wp frame (wpE ((K (F := F)).defs D) 𝒱 (SparseCore.T d) none) Set.univ (slice d q k) Q := by
  unfold slice stepV
  set A := StableHlo.after (sl q) V with hA
  set B := StableHlo.after (md q) (put q A) with hB
  iintro ⟨#Hctx, Hst, Hb, Hh, Hcg, Hti, Hk⟩
  have h1 := StableHlo.wp_seq (defs := (K (F := F)).defs D) 𝒱 (bd := none) (E := Set.univ) (Ix := HIx 4) (Name := ℕ) (U := UU) (Lvl := ℕ) d (Pipeline.ucRefs τ sig)
    (fun _ => (K (F := F)).run d q >>= fun _ => StableHlo.seq (md q) >>= fun _ =>
      SparseCore.liftProg (Prog.lift (.customCall (Pipeline.entry q) ())) >>= fun _ => k) (K := Q) (sl q) (bufs_sl q) (fresh_sl q) V
  iapply h1 $$ [Hb Hh]
  · isplitl [Hb] <;> iassumption
  iintro ⟨Hb, Hh⟩
  have h3 := Entails.of_eq (StableHlo.held_sub_split (Ix := HIx 4) (Name := ℕ) (U := UU) (Lvl := ℕ) (d.tc : Thread nD τ) (callRefs_sub q) A)
  rw [callP_held Tb ix o₀ q d A hV, ← st_eq Tb ix o₀ q d] at h3
  rw [← hA, wp_bind]
  ihave Hh' := h3 $$ Hh
  icases Hh' with ⟨Hc, Hh⟩
  iapply ((K (F := F)).wp_run D 𝒱 (EH := EH) (P := P Tb ix o₀) κ d q)
  isplitr; · iexact Hctx
  isplitl [Hst]; · iexact Hst
  isplitl [Hc]; · iexact Hc
  iintro ⟨Hst, Hc⟩
  have h4 := Entails.of_eq (StableHlo.held_sub_split (Ix := HIx 4) (Name := ℕ) (U := UU) (Lvl := ℕ) (d.tc : Thread nD τ) (callRefs_sub q) (put q A)).symm
  rw [callP_put Tb ix o₀ q d A hV, StableHlo.held_congr _ (put_off q A), ← dn_eq Tb ix o₀ q d] at h4
  ihave Hh := h4 $$ [Hc Hh]
  · isplitl [Hc] <;> iassumption
  have h2 := StableHlo.wp_seq (defs := (K (F := F)).defs D) 𝒱 (bd := none) (E := Set.univ) (Ix := HIx 4) (Name := ℕ) (U := UU) (Lvl := ℕ) d (Pipeline.ucRefs τ sig)
    (fun _ => SparseCore.liftProg (Prog.lift (.customCall (Pipeline.entry q) ())) >>= fun _ => k) (K := Q) (md q) (bufs_md q) (fresh_md q) (put q A)
  iapply h2 $$ [Hb Hh]
  · isplitl [Hb] <;> iassumption
  iintro ⟨Hb, Hh⟩
  rw [← hB, wp_bind]
  obtain ⟨R, hR⟩ := tcSt_owes (F := F) d (q.val + 1)
  ihave Hst' := (Entails.of_eq hR) $$ Hst
  icases Hst' with ⟨Ho, HR⟩
  iapply (dense_wp d q B (fun _ => wp frame (wpE ((K (F := F)).defs D) 𝒱 (SparseCore.T d) none) Set.univ k Q))
  isplitl [Hk HR]
  · iintro ⟨Hb, Hh, Ho⟩
    iapply Hk
    isplitl [Ho HR]
    · iapply (Entails.of_eq hR.symm)
      isplitl [Ho] <;> iassumption
    isplitl [Hb] <;> iassumption
  isplitl [Hb]; · iexact Hb
  isplitl [Hh Ho]
  · isplitl [Hh] <;> iassumption
  isplitr
  · iapply ((K (F := F)).ctx_levAts κ); iexact Hctx
  isplitl [Hcg] <;> iassumption

/-! ## The chain of contents through @main -/

/-- The buffers slice `q` writes. -/
def wr : Fin 4 → List (Ref sig .tc)
  | 0 => [main_v10, main_v11, main_v12, main_v13, main_v14, main_v15]
  | 1 => [main_v16, main_v17, main_v18, main_v19, main_v20, main_v21]
  | 2 => [main_v22, main_v23, main_v24, main_v25, main_v26, main_v27]
  | 3 => [main_v28, main_v29, main_v30, main_v31, main_v32, main_v33]

set_option maxRecDepth 16384 in
/-- Up to its dense kernel, a slice leaves every buffer it does not write as it was. -/
theorem mid_keep (q : Fin 4) (V : Valuation τ sig (Elt F)) (r : Ref sig .tc) (h : r ∉ wr q) :
    StableHlo.after (md q) (put q (StableHlo.after (sl q) V)) (dr r) = V (dr r) := by
  have hne : ∀ o : Ref sig .tc, o ∈ wr q → dr r ≠ dr o := fun o ho e => h (Proc.devRef_injective _ e ▸ ho)
  match q, h, hne with
  | 0, h, hne =>
    exact (StableHlo.after_unwritten [main_v14] rfl (r := r) (fun h' => h (by rw [List.mem_singleton.mp h']; decide)) _).trans
      ((Function.update_of_ne (hne main_v13 (by decide)) _ _).trans
        (StableHlo.after_unwritten [main_v10, main_v11, main_v12] rfl (fun h' => h (List.mem_append_left [main_v13, main_v14, main_v15] h')) _))
  | 1, h, hne =>
    exact (StableHlo.after_unwritten [main_v20] rfl (r := r) (fun h' => h (by rw [List.mem_singleton.mp h']; decide)) _).trans
      ((Function.update_of_ne (hne main_v19 (by decide)) _ _).trans
        (StableHlo.after_unwritten [main_v16, main_v17, main_v18] rfl (fun h' => h (List.mem_append_left [main_v19, main_v20, main_v21] h')) _))
  | 2, h, hne =>
    exact (StableHlo.after_unwritten [main_v26] rfl (r := r) (fun h' => h (by rw [List.mem_singleton.mp h']; decide)) _).trans
      ((Function.update_of_ne (hne main_v25 (by decide)) _ _).trans
        (StableHlo.after_unwritten [main_v22, main_v23, main_v24] rfl (fun h' => h (List.mem_append_left [main_v25, main_v26, main_v27] h')) _))
  | 3, h, hne =>
    exact (StableHlo.after_unwritten [main_v32] rfl (r := r) (fun h' => h (by rw [List.mem_singleton.mp h']; decide)) _).trans
      ((Function.update_of_ne (hne main_v31 (by decide)) _ _).trans
        (StableHlo.after_unwritten [main_v28, main_v29, main_v30] rfl (fun h' => h (List.mem_append_left [main_v31, main_v32, main_v33] h')) _))

set_option maxRecDepth 16384 in
/-- A slice leaves every other buffer as it was. -/
theorem stepV_keep (q : Fin 4) (V : Valuation τ sig (Elt F)) (d : Dev nD) (r : Ref sig .tc) (h : r ∉ wr q) :
    stepV q V d (dr r) = V (dr r) := by
  match q, h with
  | 0, h =>
    exact (Pipeline.afterRegion_keeps (pdats (0 + 1) _ 0 d) _ (kit (F := F) 0).win.arr_inj (fun w => pdats_A (0 + 1) _ d 0 w) r
      (by intro w e; fin_cases w <;> first | rfl | exact absurd ((show main_v15 = r from e) ▸ (by decide : main_v15 ∈ wr 0)) h)).trans (mid_keep 0 V r h)
  | 1, h =>
    exact (Pipeline.afterRegion_keeps (pdats (1 + 1) _ 1 d) _ (kit (F := F) 1).win.arr_inj (fun w => pdats_A (1 + 1) _ d 1 w) r
      (by intro w e; fin_cases w <;> first | rfl | exact absurd ((show main_v21 = r from e) ▸ (by decide : main_v21 ∈ wr 1)) h)).trans (mid_keep 1 V r h)
  | 2, h =>
    exact (Pipeline.afterRegion_keeps (pdats (2 + 1) _ 2 d) _ (kit (F := F) 2).win.arr_inj (fun w => pdats_A (2 + 1) _ d 2 w) r
      (by intro w e; fin_cases w <;> first | rfl | exact absurd ((show main_v27 = r from e) ▸ (by decide : main_v27 ∈ wr 2)) h)).trans (mid_keep 2 V r h)
  | 3, h =>
    exact (Pipeline.afterRegion_keeps (pdats (3 + 1) _ 3 d) _ (kit (F := F) 3).win.arr_inj (fun w => pdats_A (3 + 1) _ d 3 w) r
      (by intro w e; fin_cases w <;> first | rfl | exact absurd ((show main_v33 = r from e) ▸ (by decide : main_v33 ∈ wr 3)) h)).trans (mid_keep 3 V r h)

/-- What the launch memory holds on device `d`. -/
abbrev V0 (m : (ℓ : Loc nD τ sig) → Buf (Elt F) ℓ) (d : Dev nD) : Valuation τ sig (Elt F) := fun b => m (d, b)

/-- What the buffers hold when slice `n` starts. -/
def VA (m : (ℓ : Loc nD τ sig) → Buf (Elt F) ℓ) (d : Dev nD) : ℕ → Valuation τ sig (Elt F)
  | 0 => StableHlo.after pre (V0 m d)
  | n + 1 => stepV (Fin.ofNat 4 n) (VA m d n) d

/-- A slice takes what the buffers held before it to what they hold after. -/
theorem VA_succ (m : (ℓ : Loc nD τ sig) → Buf (Elt F) ℓ) (d : Dev nD) (q : Fin 4) :
    VA m d (q.val + 1) = stepV q (VA m d q.val) d := by
  show stepV (Fin.ofNat 4 q.val) (VA m d q.val) d = _
  rw [show Fin.ofNat 4 q.val = q from Fin.ext (Nat.mod_eq_of_lt q.2)]

/-- A buffer no slice before `n` writes holds what it held after the first operations. -/
theorem VA_keep (m : (ℓ : Loc nD τ sig) → Buf (Elt F) ℓ) (d : Dev nD) (r : Ref sig .tc) :
    ∀ n : ℕ, (∀ q : Fin 4, q.val < n → r ∉ wr q) → VA m d n (dr r) = VA m d 0 (dr r)
  | 0, _ => rfl
  | n + 1, h => (stepV_keep _ _ d r (h (Fin.ofNat 4 n) (Nat.lt_succ_of_le (Nat.mod_le n 4)))).trans
      (VA_keep m d r n fun q hq => h q (Nat.lt_succ_of_lt hq))

/-- The buffers the first operations write. -/
def preRefs : List (Ref sig .tc) := [main_v0, main_v1, main_v2, main_v3, main_cst, main_v4, main_v5, main_c, main_v6, main_v7, main_v8, main_v9]

/-- A buffer they do not write, and no slice before `n` does, holds what the launch memory held. -/
theorem VA_launch (m : (ℓ : Loc nD τ sig) → Buf (Elt F) ℓ) (d : Dev nD) (r : Ref sig .tc) (n : ℕ) (hp : r ∉ preRefs)
    (h : ∀ q : Fin 4, q.val < n → r ∉ wr q) : VA m d n (dr r) = m (d, dr r) :=
  (VA_keep m d r n h).trans (StableHlo.after_unwritten preRefs rfl hp _)

/-- What the buffers hold at the end. -/
def VF (m : (ℓ : Loc nD τ sig) → Buf (Elt F) ℓ) (d : Dev nD) : Valuation τ sig (Elt F) := StableHlo.after fin (VA m d 4)

/-- Slice `q`'s index list, off the lookups. -/
def idxOf : Fin 4 → (S16384x10.Idx → BitVec 32) → S40960.Idx → BitVec 32
  | 0 => fun x => shapeCast S40960 (transpose S10x4096 [1, 0] (extractStridedSlice S4096x10 ![0, 0] x slices_S16384x10_S4096x10_0_0) transposes_S4096x10_S10x4096_1_0) shapeCasts_S10x4096_S40960
  | 1 => fun x => shapeCast S40960 (transpose S10x4096 [1, 0] (extractStridedSlice S4096x10 ![4096, 0] x slices_S16384x10_S4096x10_4096_0) transposes_S4096x10_S10x4096_1_0) shapeCasts_S10x4096_S40960
  | 2 => fun x => shapeCast S40960 (transpose S10x4096 [1, 0] (extractStridedSlice S4096x10 ![8192, 0] x slices_S16384x10_S4096x10_8192_0) transposes_S4096x10_S10x4096_1_0) shapeCasts_S10x4096_S40960
  | 3 => fun x => shapeCast S40960 (transpose S10x4096 [1, 0] (extractStridedSlice S4096x10 ![12288, 0] x slices_S16384x10_S4096x10_12288_0) transposes_S4096x10_S10x4096_1_0) shapeCasts_S10x4096_S40960

/-- A slice's index list names rows of the table where the lookups do. -/
theorem idxOf_lt (x : S16384x10.Idx → BitVec 32) (h : ∀ j, (x j).toNat < 100000) : ∀ (q : Fin 4) (p : S40960.Idx), (idxOf q x p).toNat < 100000
  | 0, _ | 1, _ | 2, _ | 3, _ => h _

variable (m : (ℓ : Loc nD τ sig) → Buf (Elt F) ℓ) (ρ : Dev nD → PrngReg)

/-- The table, the index lists and the outputs' first contents, off the launch memory. -/
abbrev tbl (d : Dev nD) : S100000x128.Idx → Elt F .f32 := V0 m d (dr main_arg1)
abbrev idx (q : Fin 4) (d : Dev nD) : S40960.Idx → BitVec 32 := idxOf q (V0 m d (dr main_arg0))
def out0 (q : Fin 4) (d : Dev nD) : S40960x128.Idx → Elt F .f32 :=
  match q with
  | 0 => V0 m d (dr main_v13)
  | 1 => V0 m d (dr main_v19)
  | 2 => V0 m d (dr main_v25)
  | 3 => V0 m d (dr main_v31)

set_option maxRecDepth 16384 in
/-- Every call finds its operands. -/
theorem callOK (d : Dev nD) (q : Fin 4) : CallOK (tbl m) (idx m) (out0 m) q d (StableHlo.after (sl q) (VA m d q.val)) := by
  match q with
  | 0 =>
    refine ⟨(StableHlo.after_unwritten [main_v10, main_v11, main_v12] rfl (by decide) _).trans (VA_launch m d main_arg1 0 (by decide) (by decide)), ?_,
      (StableHlo.after_unwritten [main_v10, main_v11, main_v12] rfl (by decide) _).trans (VA_launch m d main_v13 0 (by decide) (by decide))⟩
    rw [show idx m 0 d = idxOf 0 (VA m d 0 (dr main_arg0)) from congrArg (idxOf 0) (VA_launch m d main_arg0 0 (by decide) (by decide)).symm]
    simp only [sl, StableHlo.after_cons, StableHlo.after_nil]
    rw [StableHlo.reshape_result', StableHlo.unary_result', StableHlo.unary_result']
    rfl
  | 1 =>
    refine ⟨(StableHlo.after_unwritten [main_v16, main_v17, main_v18] rfl (by decide) _).trans (VA_launch m d main_arg1 1 (by decide) (by decide)), ?_,
      (StableHlo.after_unwritten [main_v16, main_v17, main_v18] rfl (by decide) _).trans (VA_launch m d main_v19 1 (by decide) (by decide))⟩
    rw [show idx m 1 d = idxOf 1 (VA m d 1 (dr main_arg0)) from congrArg (idxOf 1) (VA_launch m d main_arg0 1 (by decide) (by decide)).symm]
    simp only [sl, StableHlo.after_cons, StableHlo.after_nil]
    rw [StableHlo.reshape_result', StableHlo.unary_result', StableHlo.unary_result']
    rfl
  | 2 =>
    refine ⟨(StableHlo.after_unwritten [main_v22, main_v23, main_v24] rfl (by decide) _).trans (VA_launch m d main_arg1 2 (by decide) (by decide)), ?_,
      (StableHlo.after_unwritten [main_v22, main_v23, main_v24] rfl (by decide) _).trans (VA_launch m d main_v25 2 (by decide) (by decide))⟩
    rw [show idx m 2 d = idxOf 2 (VA m d 2 (dr main_arg0)) from congrArg (idxOf 2) (VA_launch m d main_arg0 2 (by decide) (by decide)).symm]
    simp only [sl, StableHlo.after_cons, StableHlo.after_nil]
    rw [StableHlo.reshape_result', StableHlo.unary_result', StableHlo.unary_result']
    rfl
  | 3 =>
    refine ⟨(StableHlo.after_unwritten [main_v28, main_v29, main_v30] rfl (by decide) _).trans (VA_launch m d main_arg1 3 (by decide) (by decide)), ?_,
      (StableHlo.after_unwritten [main_v28, main_v29, main_v30] rfl (by decide) _).trans (VA_launch m d main_v31 3 (by decide) (by decide))⟩
    rw [show idx m 3 d = idxOf 3 (VA m d 3 (dr main_arg0)) from congrArg (idxOf 3) (VA_launch m d main_arg0 3 (by decide) (by decide)).symm]
    simp only [sl, StableHlo.after_cons, StableHlo.after_nil]
    rw [StableHlo.reshape_result', StableHlo.unary_result', StableHlo.unary_result']
    rfl

/-! ## The launch's ghost state -/

omit [FloatOps F] in
theorem bigSep_emp' {I : Type} (s : Finset I) : (bigSep s fun _ => iprop(emp)) = (iprop(emp) : sProp 𝕄) := bigSep_emp_const s

/-- The launch element: the handshakes' rounds, and the pipelines'. -/
def u₀ : UU :=
  (initOf (K (F := F)).hsCells (K (F := F)).hsToks,
    (initOf (Pipeline.cells (Pipeline.pin (pcfgs (F := F)) adm) ((kit (F := F) 0).cellOf_inj adm))
      (Pipeline.launchToks (Pipeline.pin (pcfgs (F := F)) adm) ((kit (F := F) 0).cellOf_inj adm)), 1))

/-- What @main is given at the launch besides its buffers: its pipelines' ghost state. -/
abbrev G (d : Dev nD) : sProp 𝕄 :=
  iprop((bigSep Finset.univ fun p : Fin 4 => Pipeline.cellsGhost (Pipeline.pin (pcfgs (F := F)) adm) EP p d)
    ∗ bigSep Finset.univ fun p : Fin 4 => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 4 => (P (tbl m) (idx m) (out0 m)).x q thr) := by
  unfold u₀
  iintro Hu
  ihave H := (ownU_pair (initOf (K (F := F)).hsCells (K (F := F)).hsToks) _) $$ Hu
  icases H with ⟨HH, HP⟩
  ihave HP := (own_pair_emb embR (initOf (Pipeline.cells (Pipeline.pin (pcfgs (F := F)) adm) ((kit (F := F) 0).cellOf_inj adm))
      (Pipeline.launchToks (Pipeline.pin (pcfgs (F := F)) adm) ((kit (F := F) 0).cellOf_inj adm))) (1 : Counters)) $$ HP
  icases HP with ⟨HP, -⟩
  imod (Pipeline.fund_ghost (Pipeline.pin (pcfgs (F := F)) adm) EP ((kit (F := F) 0).cellOf_inj adm)) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 4 => (P (tbl m) (idx m) (out0 m)).x q thr)
      = (bigSep Finset.univ fun _ : Thread nD τ => iprop(emp) : sProp 𝕄) from
    bigSep_congr fun _ _ => bigSep_emp' _, bigSep_emp']
  iempintro

/-! ## @main on the TensorCore -/

theorem bufs_pre : ∀ op ∈ pre (F := F), op.bufs ⊆ Pipeline.ucRefs τ sig := by
  intro op h; refine bufs_uc op ?_; fin_cases h <;> simp

theorem bufs_fin : ∀ op ∈ fin (F := F), op.bufs ⊆ Pipeline.ucRefs τ sig := by
  intro op h; refine bufs_uc op ?_; fin_cases h; simp

theorem fresh_pre : ∀ op ∈ pre (F := F), op.fresh = ∅ := by intro op h; fin_cases h <;> rfl

theorem fresh_fin : ∀ op ∈ fin (F := F), op.fresh = ∅ := by intro op h; fin_cases h; rfl

/-- At the end @main's buffers hold the chain's last contents. -/
abbrev FIN (d : Dev nD) : sProp 𝕄 := StableHlo.held (d.tc : Thread nD τ) (Pipeline.ucRefs τ sig) (VF m d)

omit [FloatOps F] in
/-- One piece of four. -/
theorem four (f : Fin 4 → sProp 𝕄) : (bigSep Finset.univ f) = iprop(f 0 ∗ f 1 ∗ f 2 ∗ f 3) := by
  rw [show (Finset.univ : Finset (Fin 4)) = {0, 1, 2, 3} from by decide, SparseCore.bigSep_insert' (by decide),
    SparseCore.bigSep_insert' (by decide), SparseCore.bigSep_insert' (by decide), bigSep_singleton]

/-- One slice of the chain. -/
theorem step (κ : GSem nD τ sig → ℕ) (d : Dev nD) (q : Fin 4)
    (k : Prog (TpuEff nD τ sig (Elt F) (SparseCore.Sig (ΛP (F := F)) 4) .tc) PUnit) (Q : PUnit → sProp 𝕄) :
    iprop((K (F := F)).ctx EH (P (tbl m) (idx m) (out0 m)) κ ∗ (K (F := F)).tcSt EH d q.val ∗ boundary (d.tc : Thread nD τ)
      ∗ StableHlo.held (d.tc : Thread nD τ) (Pipeline.ucRefs τ sig) (VA m d q.val)
      ∗ Pipeline.cellsGhost (Pipeline.pin (pcfgs (F := F)) adm) EP q d ∗ Pipeline.toksInit (Pipeline.pin (pcfgs (F := F)) adm) EP q d
      ∗ (((K (F := F)).tcSt EH d (q.val + 1) ∗ boundary (d.tc : Thread nD τ)
          ∗ StableHlo.held (d.tc : Thread nD τ) (Pipeline.ucRefs τ sig) (VA m d (q.val + 1)))
          -∗ wp frame (wpE ((K (F := F)).defs D) 𝒱 (SparseCore.T d) none) Set.univ k Q))
      ⊢ wp frame (wpE ((K (F := F)).defs D) 𝒱 (SparseCore.T d) none) Set.univ (slice d q k) Q := by
  rw [VA_succ]
  exact slice_wp (tbl m) (idx m) (out0 m) κ d q (VA m d q.val) (callOK m d q) k Q

set_option backward.isDefEq.respectTransparency.types false in
/-- @main from what the launch gives it: the host operations and the four slices in order. -/
theorem hmain (κ : GSem nD τ sig → ℕ) (d : Dev nD) :
    iprop((K (F := F)).ctx EH (P (tbl m) (idx m) (out0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd G
  rw [four, four, main_eq]
  have hu := Entails.of_eq (Pipeline.unscopedBufs_held (Ix := HIx 4) (Name := ℕ) (U := UU) (Lvl := ℕ) d (V0 m d))
  iintro ⟨#Hctx, Hst, ⟨Hb, Hu, Hts, -⟩, ⟨Hc0, Hc1, Hc2, Hc3⟩, Ht0, Ht1, Ht2, Ht3⟩
  ihave Hh := hu $$ Hu
  have h1 := StableHlo.wp_seq (β := PUnit) (defs := (K (F := F)).defs D) 𝒱 (bd := none) (E := Set.univ) (Ix := HIx 4) (Name := ℕ) (U := UU) (Lvl := ℕ) d (Pipeline.ucRefs τ sig)
    (fun _ => slice d 0 (slice d 1 (slice d 2 (slice d 3 (StableHlo.seq fin >>= fun _ => pure ⟨⟩)))))
    (K := fun _ => iprop((K (F := F)).tcSt EH d 4 ∗ FIN m d ∗ boundary (SparseCore.T d) ∗ (K (F := F)).tcSems0 d)) (pre (F := F)) bufs_pre fresh_pre (V0 m d)
  iapply h1 $$ [Hb Hh]
  · isplitl [Hb] <;> iassumption
  iintro ⟨Hb, Hh⟩
  iapply (step m κ d 0 (slice d 1 (slice d 2 (slice d 3 (StableHlo.seq fin >>= fun _ => pure ⟨⟩)))) (fun _ => iprop((K (F := F)).tcSt EH d 4 ∗ FIN m d ∗ boundary (SparseCore.T d) ∗ (K (F := F)).tcSems0 d)))
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (step m κ d 1 (slice d 2 (slice d 3 (StableHlo.seq fin >>= fun _ => pure ⟨⟩))) (fun _ => iprop((K (F := F)).tcSt EH d 4 ∗ FIN m d ∗ boundary (SparseCore.T d) ∗ (K (F := F)).tcSems0 d)))
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩
  iapply (step m κ d 2 (slice d 3 (StableHlo.seq fin >>= fun _ => pure ⟨⟩)) (fun _ => iprop((K (F := F)).tcSt EH d 4 ∗ FIN m d ∗ boundary (SparseCore.T d) ∗ (K (F := F)).tcSems0 d)))
  isplitr; · iexact Hctx
  isplitl [Hst]; · iexact Hst
  isplitl [Hb]; · iexact Hb
  isplitl [Hh]; · iexact Hh
  isplitl [Hc2]; · iexact Hc2
  isplitl [Ht2]; · iexact Ht2
  iintro ⟨Hst, Hb, Hh⟩
  iapply (step m κ d 3 (StableHlo.seq fin >>= fun _ => pure ⟨⟩) (fun _ => iprop((K (F := F)).tcSt EH d 4 ∗ FIN m d ∗ boundary (SparseCore.T d) ∗ (K (F := F)).tcSems0 d)))
  isplitr; · iexact Hctx
  isplitl [Hst]; · iexact Hst
  isplitl [Hb]; · iexact Hb
  isplitl [Hh]; · iexact Hh
  isplitl [Hc3]; · iexact Hc3
  isplitl [Ht3]; · iexact Ht3
  iintro ⟨Hst, Hb, Hh⟩
  have h2 := StableHlo.wp_seq (β := PUnit) (defs := (K (F := F)).defs D) 𝒱 (bd := none) (E := Set.univ) (Ix := HIx 4) (Name := ℕ) (U := UU) (Lvl := ℕ) d (Pipeline.ucRefs τ sig)
    (fun _ => pure ⟨⟩)
    (K := fun _ => iprop((K (F := F)).tcSt EH d 4 ∗ FIN m d ∗ boundary (SparseCore.T d) ∗ (K (F := F)).tcSems0 d)) (fin (F := F)) bufs_fin fresh_fin (VA m d 4)
  iapply h2 $$ [Hb Hh]
  · isplitl [Hb]; · iexact Hb
    iexact Hh
  iintro ⟨Hb, Hh⟩
  rw [wp_pure]; imodintro
  isplitl [Hst]; · iexact Hst
  isplitl [Hh]; · iexact Hh
  isplitl [Hb]; · iexact Hb
  iexact Hts

/-- What the final memory holds: every buffer at the chain's last contents. -/
def fq (d : Dev nD) (s' : Phys nD τ sig (Elt F)) : Prop := ∀ b ∈ Pipeline.ucRefs τ sig, s'.mem.mem (d, b) = VF m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (st := s') (c := d) (qs := fun _ => fullShare) (F := VF m d) (Pipeline.ucRefs τ sig))
  isplitl [HSI] <;> iassumption

/-- What the run leaves. -/
def QC : PUnit × MemSt nD τ sig (Elt F) → Prop := fun r =>
  (∀ d : Dev nD, ∀ b ∈ Pipeline.ucRefs τ sig, r.2.mem (d, b) = VF m d b) ∧ r.2.sem = fun _ => 0

/-- From a launch memory whose lookups all name rows of the table, the program runs to the end, every buffer at the
    chain's last contents and every semaphore at zero. -/
theorem run_main (hpre : ∀ d j, ((V0 m d (dr main_arg0) : S16384x10.Idx → BitVec 32) j).toNat < 100000) :
    θ_run (defs (F := F)) (threads (F := F)) ⟨m, fun _ => 0, ρ⟩ (QC m) :=
  SparseCore.Cfg.θ_run_sc_quiescent (K := K (F := F)) (D := D (F := F)) (𝒱 := 𝒱) (EH := EH) (P := P (tbl m) (idx m) (out0 m)) (A := ∅) facts v₀
    (fun q hq => match q with | 0 | 1 | 2 | 3 => nomatch hq)
    (fun q _ => tileObl (tbl m) (idx m) (out0 m) (fun q d p => idxOf_lt _ (hpre d) q p) q)
    (fun q _ => SparseCore.Cfg.VecSplit.of_plain (vecSplit (tbl m) (idx m) (out0 m) q))
    m ρ main (fun d => G d) (FIN m) (u₀ (F := F)) (sep_elim_left.trans (hu₀ m)) (hmain m ρ) (fq m) (hfin m) (QC m) (fun _ h hz => ⟨h, hz⟩)

end Cert.Proof

end
-- ==== Proof.Same.lean ====
/-
  The program over words and the one read over the idealized floats are one text: their body tables, compared row by row, their
  definitions and their threads are equal.
-/
module

public import proofs.«01_k».proof.Proof.Gen.KernelIdeal
public import proofs.«01_k».proof.Proof.Gen.Kernel
public import proofs.«01_k».proof.Defs

@[expose] public section

noncomputable section

namespace Cert.Proof

open Idealize.ShloMosaic

attribute [local instance] Cert.Kernel.Gen.facts Cert.KernelIdeal.Gen.facts

set_option maxHeartbeats 4000000

/-- On the TensorCore, the word program's body table is the reading program's. -/
theorem body_tc : ∀ (ℓ : Cert.KernelIdeal.Λ₀.Label) (a : Cert.KernelIdeal.Λ₀.Args ℓ),
    Cert.Kernel.defs₀ (F := Bits) .tc ℓ a = Cert.KernelIdeal.defs₀ (F := Bits) .tc ℓ a
  | 0, _ => by rfl
  | 1, _ => by rfl
  | 2, _ => by rfl
  | 3, _ => by rfl
  | 4, _ => by rfl
  | 5, _ => by rfl
  | 6, _ => by rfl
  | 7, _ => by rfl
  | ⟨_ + 8, h⟩, _ => absurd h (Nat.not_lt.2 (Nat.le_add_left _ _))

/-- On a scalar subcore, where no label runs. -/
theorem body_scalar (c) (ℓ : Cert.KernelIdeal.Λ₀.Label) (a : Cert.KernelIdeal.Λ₀.Args ℓ) :
    Cert.Kernel.defs₀ (F := Bits) (.scScalar c) ℓ a = Cert.KernelIdeal.defs₀ (F := Bits) (.scScalar c) ℓ a := by rfl

/-- On a vector subcore. -/
theorem body_vector (c s) : ∀ (ℓ : Cert.KernelIdeal.Λ₀.Label) (a : Cert.KernelIdeal.Λ₀.Args ℓ),
    Cert.Kernel.defs₀ (F := Bits) (.scVector c s) ℓ a = Cert.KernelIdeal.defs₀ (F := Bits) (.scVector c s) ℓ a
  | 0, _ => by rfl
  | 1, _ => by rfl
  | 2, _ => by rfl
  | 3, _ => by rfl
  | 4, _ => by rfl
  | 5, _ => by rfl
  | 6, _ => by rfl
  | 7, _ => by rfl
  | ⟨_ + 8, h⟩, _ => absurd h (Nat.not_lt.2 (Nat.le_add_left _ _))

/-- The body tables are one. -/
theorem body_eq : Cert.Kernel.defs₀ (F := Bits) = Cert.KernelIdeal.defs₀ (F := Bits) := by
  funext p ℓ a
  cases p with
  | tc => exact body_tc ℓ a
  | scScalar c => exact body_scalar c ℓ a
  | scVector c s => exact body_vector c s ℓ a

/-- So are the programs' tables. -/
theorem defs_eq : Cert.Kernel.defs (F := Bits) = Cert.KernelIdeal.defs (F := Bits) := by
  unfold Cert.Kernel.defs
  rw [body_eq]
  rfl

/-- And the threads they run. -/
theorem threads_eq : Cert.Kernel.threads (F := Bits) = Cert.KernelIdeal.threads (F := Bits) := by rfl

end Cert.Proof

end
-- ==== Proof.Frames.lean ====
/-
  The frames: each program runs to the end, its arguments as they were and its semaphores at zero. The kernel's is read off
  its run for any float values; the reference's off its list of host operations.
-/
module

public import proofs.«01_k».proof.Defs
public import proofs.«01_k».proof.Proof.Main
public import proofs.«01_k».proof.Proof.Same
public import proofs.«01_k».proof.Proof.Gen.Pre_rows_in_table
public import proofs.«01_k».proof.Proof.Gen.ReferenceIdeal.Run
public import Idealize.ShloMosaic.Lib.ReduceAll
public import Idealize.ShloMosaic.Lib.Quiescent

@[expose] public section

noncomputable section

namespace Cert.Proof

open Cert.KernelIdeal Cert.KernelIdeal.Gen

open Idealize.ShloMosaic Idealize.ShloMosaic.TcCoe Idealize.SL.Sem

attribute [local instance] Cert.Kernel.Gen.facts Cert.ReferenceIdeal.Gen.facts Cert.Pre_rows_in_table.Gen.facts

instance : Subsingleton (Cert.Pre_rows_in_table.S_).Idx := ⟨fun a b => funext fun i => i.elim0⟩

/-- The precondition read back: every lookup names a row of the table. -/
theorem rows_of_pre {F : FTy → Type} [FloatOps F] (x : IVec S16384x10 32) (t : FVec F S100000x128 .f32) (w : FVec F S1024x1280 .f32)
    (b : FVec F S1024 .f32) (w' : FVec F S1x1024 .f32) (b' : FVec F S1 .f32)
    (h : Cert.Pre_rows_in_table.fn x t w b w' b' = fun _ => 1#1) (j : S16384x10.Idx) : (x j).toNat < 100000 := by
  have e := congrFun h (Shape.Idx.first Cert.Pre_rows_in_table.Facts.h_S_)
  have e' := Host.reduce_andi_all _ _ _ _ _ e j
  obtain ⟨e1, e2⟩ := IntOp.andi_eq_one.1 e'
  have h1 := IntOp.cmpi_sge.1 e1
  have h2 := IntOp.cmpi_slt.1 e2
  simp only [broadcastInDim, constantI, BitVec.toInt_eq_toNat_cond, BitVec.toNat_ofNat, Nat.reducePow, Nat.reduceMod] at h1 h2
  omega

/-! ## The kernel's -/

section Kernel

variable {F : FTy → Type} [FloatOps F] [∀ e, Nonempty (Elt F e)] (m : (ℓ : Loc nD τ sig) → Buf (Elt F) ℓ)

/-- A buffer @main does not write ends as the launch memory had it. -/
theorem VF_launch (d : Dev nD) (r : Ref sig .tc) (hp : r ∉ preRefs) (h : ∀ q : Fin 4, r ∉ wr q) (hr : r ≠ main_v34) :
    VF m d (dr r) = m (d, dr r) :=
  (StableHlo.after_unwritten [main_v34] rfl (fun h => hr (List.mem_singleton.mp h)) _).trans (VA_launch m d r 4 hp fun q _ => h q)

/-- Every run of the kernel's program ends, with the last contents in the result, the arguments unchanged, every counter at zero. -/
theorem kernel_frame (ρ : Dev nD → PrngReg) (hpre : ∀ d j, ((V0 m d (dr main_arg0) : S16384x10.Idx → BitVec 32) j).toNat < 100000) :
    θ_run (defs (F := F)) (threads (F := F)) ⟨m, fun _ => 0, ρ⟩ fun r =>
      ((∀ c : Dev nD, r.2.mem ((c.tc : Thread nD τ).loc main_v34) = VF m c (dr main_v34)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun r h => ⟨fun c =>
    have k : ∀ (b : Ref sig .tc), b.isScoped = false → b ∉ preRefs → (∀ q : Fin 4, b ∉ wr q) → b ≠ main_v34 →
        r.2.mem ((c.tc : Thread nD τ).loc b) = m ((c.tc : Thread nD τ).loc b) := fun b hb hp hw hr =>
      (h.1 c (dr b) (mem_uc b hb)).trans (VF_launch m c b hp hw hr)
    ⟨h.1 c (dr main_v34) (mem_uc main_v34 rfl), k main_arg0 rfl (by decide) (by decide) (by decide), k main_arg1 rfl (by decide) (by decide) (by decide),
      k main_arg2 rfl (by decide) (by decide) (by decide), k main_arg3 rfl (by decide) (by decide) (by decide),
      k main_arg4 rfl (by decide) (by decide) (by decide), k main_arg5 rfl (by decide) (by decide) (by decide)⟩, h.2⟩) (run_main m ρ hpre)

end Kernel

/-- The kernel's frame over the idealized floats. -/
theorem frame_ideal : Cert.quiescent_KernelIdeal := fun m ρ hp =>
  (θ_run defs _ _).mono (fun _ h => ⟨fun c => (h.1 c).2, h.2⟩)
    (kernel_frame (F := Ideal) m ρ fun d => rows_of_pre _ _ _ _ _ _ (hp d))

/-- The kernel's frame over words. -/
theorem frame_kernel : Cert.quiescent_Kernel := fun m ρ hp => by
  rw [defs_eq, threads_eq]
  exact (θ_run Cert.KernelIdeal.defs _ _).mono (fun _ h => ⟨fun c => (h.1 c).2, h.2⟩)
    (kernel_frame (F := Bits) m ρ fun d => rows_of_pre _ _ _ _ _ _ (hp d))

/-! ## The reference's -/

/-- The reference's frame. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same where the lookups name rows of the table. -/
theorem frame_reference_pre : Cert.quiescent_ReferenceIdeal_pre_rows_in_table := fun m ρ _ => frame_reference m ρ trivial

end Cert.Proof

end
-- ==== Proof.Score.lean ====
/-
  The value both programs compute: a batch row's score, of the lookups, the table and the weights.
-/
module

public import proofs.«01_k».proof.Proof.Common
public import Idealize.ShloMosaic.Lib.Pointwise

@[expose] public section

noncomputable section

namespace Cert.Proof

open Cert.KernelIdeal Idealize.ShloMosaic

/-- The scores: a batch row's ten table rows side by side, the hidden layer with its bias and rectifier, the output layer
    with its bias, and the logistic function. -/
def score (x : S16384x10.Idx → BitVec 32) (tb : S100000x128.Idx → EReal) (w1 : S1024x1280.Idx → EReal) (b1 : S1024.Idx → EReal)
    (w2 : S1x1024.Idx → EReal) (b2 : S1.Idx → EReal) : S16384.Idx → EReal := fun b =>
  Ideal.logistic ((∑ k : Fin 1024,
      max ((∑ j : Fin 1280, tb (tIx (x (ix2 (b 0) ⟨j.val / 128, by omega⟩)).toNat ⟨j.val % 128, by omega⟩) * w1 (ix2 k j)) + b1 (ix1 k)) 0
        * w2 (ix2 0 k)) + b2 (ix1 0))

end Cert.Proof

end
-- ==== Proof.Reference.lean ====
/-
  The reference's result is the scores, where every lookup names a row of the table.
-/
module

public import proofs.«01_k».proof.Proof.Score
public import proofs.«01_k».proof.Proof.Gen.ReferenceIdeal.Run
public import Idealize.ShloMosaic.Lib.ReduceAll

@[expose] public section

noncomputable section

namespace Cert.Proof

open Cert.ReferenceIdeal Cert.ReferenceIdeal.Gen

open Idealize.ShloMosaic

/-- The lookups as the reference's gather takes them: a negative one counts from the table's end. -/
def wrapped (x : S16384x10.Idx → BitVec 32) : S16384x10x1.Idx → BitVec 32 :=
  broadcastInDim S16384x10x1 ![0, 1] bcast_S16384x10_S16384x10x1_0_1
    (select (cmpi .slt x (broadcastInDim S16384x10 ![] bcast_S_S16384x10 (constantI S_ 32 0#32)))
      (addi x (broadcastInDim S16384x10 ![] bcast_S_S16384x10 (constantI S_ 32 100000#32))) x)

/-- Which lookups lie in the table. -/
def inRange (w : S16384x10x1.Idx → BitVec 32) : S16384x10.Idx → BitVec 1 :=
  Host.reduce IntOp.andi
    (andi (cmpi .sge w (broadcastInDim S16384x10x1 ![] bcast_S_S16384x10x1 (constantI S_ 32 0#32)))
      (cmpi .sle w (broadcastInDim S16384x10x1 ![0, 1, 2] bcast_S1x1x1_S16384x10x1_0_1_2 (broadcastInDim S1x1x1 ![2] bcast_S1_S1x1x1_2 (constantI S1 32 99999#32)))))
    (constantI S_ 1 1#1) reducesTo_S16384x10x1_S16384x10_d2 h_S_

/-- The rows the reference takes. -/
def taken (x : S16384x10.Idx → BitVec 32) (tb : S100000x128.Idx → EReal) : S16384x10x128.Idx → EReal :=
  select (broadcastInDim S16384x10x128 ![0, 1] bcast_S16384x10_S16384x10x128_0_1 (inRange (wrapped x)))
    (Host.gather gather_S100000x128_S16384x10x1_S16384x10x128_2_0_n_n_0_2_1128 tb (wrapped x))
    (broadcastInDim S16384x10x128 ![] bcast_S_S16384x10x128 (constant (F := Ideal) S_ .f32 0x7FC00000#32))

/-- The reference's result, of the rows it takes. -/
def refOut (e : S16384x10x128.Idx → EReal) (w1 : S1024x1280.Idx → EReal) (b1 : S1024.Idx → EReal) (w2 : S1x1024.Idx → EReal)
    (b2 : S1.Idx → EReal) : S16384.Idx → EReal :=
  shapeCast S16384 (Host.divf (F := Ideal) (φ := .f32) (broadcastInDim S16384x1 ![] bcast_S_S16384x1 (constant S_ .f32 0x3F800000#32))
    (addf (broadcastInDim S16384x1 ![] bcast_S_S16384x1 (constant S_ .f32 0x3F800000#32))
      (Host.exp (Host.negf (addf
        (Host.dotGeneral (φ₁ := .f32) (φ₂ := .f32) dot_S16384x1024_S1024x1_S16384x1_1_0_0_1_n_n none
          (maximumf (addf
            (Host.dotGeneral (φ₁ := .f32) (φ₂ := .f32) dot_S16384x1280_S1280x1024_S16384x1024_1_0_0_1_n_n none (shapeCast S16384x1280 e shapeCasts_S16384x10x128_S16384x1280)
              (transpose S1280x1024 [1, 0] w1 transposes_S1024x1280_S1280x1024_1_0))
            (broadcastInDim S16384x1024 ![0, 1] bcast_S1x1024_S16384x1024_0_1 (broadcastInDim S1x1024 ![1] bcast_S1024_S1x1024_1 b1)))
            (broadcastInDim S16384x1024 ![] bcast_S_S16384x1024 (constant S_ .f32 0x00000000#32)))
          (transpose S1024x1 [1, 0] w2 transposes_S1x1024_S1024x1_1_0))
        (broadcastInDim S16384x1 ![0, 1] bcast_S1x1_S16384x1_0_1 (broadcastInDim S1x1 ![1] bcast_S1_S1x1_1 b2))))))) shapeCasts_S16384x1_S16384

/-- A lookup in the table is taken as it stands. -/
theorem wrapped_apply (x : S16384x10.Idx → BitVec 32) (h : ∀ j, (x j).toNat < 100000) (i : S16384x10x1.Idx) :
    wrapped x i = x (ix2 (i 0) (i 1)) := by
  have h' := h (ix2 (i 0) (i 1))
  idx_vars i
  pointwise [wrapped]
  refine if_neg fun e => ?_
  have e' := IntOp.cmpi_slt.1 e
  simp only [BitVec.toInt_eq_toNat_cond, BitVec.toNat_ofNat, Nat.reducePow, Nat.reduceMod] at e'
  omega

/-- Every lookup lies in the table. -/
theorem inRange_one (w : S16384x10x1.Idx → BitVec 32) (h : ∀ j, (w j).toNat < 100000) (i : S16384x10.Idx) : inRange w i = 1#1 := by
  refine Host.reduce_andi_one _ _ _ _ _ rfl fun j => ?_
  have h' := h j
  refine IntOp.andi_eq_one.2 ⟨IntOp.cmpi_sge.2 ?_, IntOp.cmpi_sle.2 ?_⟩ <;>
    simp only [broadcastInDim, constantI, BitVec.toInt_eq_toNat_cond, BitVec.toNat_ofNat, Nat.reducePow, Nat.reduceMod] <;> omega

/-- The reference's gather at an element: the table's row that the lookup names. -/
theorem gather_apply (tb : S100000x128.Idx → EReal) (w : S16384x10x1.Idx → BitVec 32) (b : Fin 16384) (s : Fin 10) (c : Fin 128)
    (h : (w (ix3 b s 0)).toNat < 100000) :
    Host.gather gather_S100000x128_S16384x10x1_S16384x10x128_2_0_n_n_0_2_1128 tb w (ix3 b s c) = tb (tIx (w (ix3 b s 0)).toNat c) := by
  unfold Host.gather
  refine congrArg tb (funext fun a => Fin.ext ?_)
  show GatherDims.start _ (ix3 b s c) w a + GatherDims.batchCoord _ (ix3 b s c) a + GatherDims.offCoord _ (ix3 b s c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S100000x128_S16384x10x1_S16384x10x128_2_0_n_n_0_2_1128.startIndexMap from List.mem_singleton.mpr rfl)]
    have hsi : ∀ k, GatherDims.siIdx gather_S100000x128_S16384x10x1_S16384x10x128_2_0_n_n_0_2_1128 (ix3 b s c) k = ix3 b s 0 := fun k => by
      funext z
      match z with
      | ⟨0, _⟩ => rfl
      | ⟨1, _⟩ => rfl
      | ⟨2, _⟩ => exact Subsingleton.elim (α := Fin 1) _ _
    rw [hsi]
    show min (w (ix3 b s 0)).toInt.toNat 99999 + 0 + 0 = (w (ix3 b s 0)).toNat % 100000
    rw [BitVec.toInt_eq_toNat_of_lt (by omega)]
    omega
  | ⟨1, _⟩ =>
    unfold GatherDims.start
    rw [dif_neg (show (⟨1, by decide⟩ : Fin 2) ∉ gather_S100000x128_S16384x10x1_S16384x10x128_2_0_n_n_0_2_1128.startIndexMap from fun h => absurd (List.mem_singleton.mp h) (by decide))]
    unfold GatherDims.offCoord
    rw [dif_pos (show (⟨1, by decide⟩ : Fin 2) ∈ gather_S100000x128_S16384x10x1_S16384x10x128_2_0_n_n_0_2_1128.sKept from by decide)]
    exact (Nat.zero_add _).trans rfl

/-- The rows the reference takes, where every lookup names a row. -/
theorem taken_apply (x : S16384x10.Idx → BitVec 32) (tb : S100000x128.Idx → EReal) (h : ∀ j, (x j).toNat < 100000)
    (b : Fin 16384) (s : Fin 10) (c : Fin 128) : taken x tb (ix3 b s c) = tb (tIx (x (ix2 b s)).toNat c) := by
  have hw : ∀ j, (wrapped x j).toNat < 100000 := fun j => by rw [wrapped_apply x h]; exact h _
  pointwise [taken]
  rw [inRange_one _ hw]
  refine (if_pos rfl).trans ?_
  rw [gather_apply tb _ b s c (hw _), wrapped_apply x h]
  rfl

/-- The reference's result is the scores. -/
theorem refOut_score (x : S16384x10.Idx → BitVec 32) (tb : S100000x128.Idx → EReal) (w1 : S1024x1280.Idx → EReal) (b1 : S1024.Idx → EReal)
    (w2 : S1x1024.Idx → EReal) (b2 : S1.Idx → EReal) (h : ∀ j, (x j).toNat < 100000) :
    refOut (taken x tb) w1 b1 w2 b2 = score x tb w1 b1 w2 b2 := by
  have key : ∀ (e : S16384x10x128.Idx → EReal) (b : Fin 16384), refOut e w1 b1 w2 b2 (ix1 b)
      = Ideal.logistic ((∑ k : Fin 1024, max ((∑ j : Fin 1280, e (ix3 b ⟨j.val / 128, by omega⟩ ⟨j.val % 128, by omega⟩) * w1 (ix2 k j))
          + b1 (ix1 k)) 0 * w2 (ix2 0 k)) + b2 (ix1 0)) := fun e b => by
    pointwise [refOut]
    rfl
  funext i
  obtain ⟨b, rfl⟩ : ∃ b : Fin 16384, i = ix1 b := ⟨i 0, eq_ix1 i⟩
  rw [key]
  simp only [taken_apply x tb h]
  rfl

end Cert.Proof

end
-- ==== Proof.Row.lean ====
/-
  The dense kernel's result over the extended reals, at one row.
-/
module

public import proofs.«01_k».proof.Proof.Mlp
public import Idealize.ShloMosaic.Lib.Pointwise
public import Idealize.ShloMosaic.Lib.Pipeline.Value

@[expose] public section

noncomputable section

namespace Cert.Proof

open Cert.KernelIdeal Cert.KernelIdeal.Gen

open Idealize.ShloMosaic

/-- The last part of a chunk at a row: bias, rectifier, output layer and logistic function, of the first layer's products. -/
theorem pay1_apply (v25 : S2048x1024.Idx → EReal) (v26 : S1x1024.Idx → EReal) (v32 : S1024x128.Idx → EReal) (v37 : S1x1.Idx → EReal) (r : Fin 2048) :
    k1_pay1 (F := Ideal) v25 v26 v32 v37 (ix1 r)
      = Ideal.logistic ((∑ k : Fin 1024, max (v25 (ix2 r k) + v26 (ix2 0 k)) 0 * v32 (ix2 k 0)) + v37 (ix2 0 0)) := by
  pointwise [k1_pay1]

/-- Ten blocks side by side, at a column. -/
theorem cat_apply (f : Fin 10 → S2048x128.Idx → EReal) (r : Fin 2048) (j : Fin 1280) :
    concatenate S2048x1280 1 (List.ofFn fun n => (⟨S2048x128, f n⟩ : Σ s : Shape, s.Idx → EReal)) concatenates_S2048x128_S2048x128_S2048x128_S2048x128_S2048x128_S2048x128_S2048x128_S2048x128_S2048x128_S2048x128_S2048x1280_d1 (ix2 r j)
      = f ⟨j.val / 128, by omega⟩ (ix2 r ⟨j.val % 128, by omega⟩) := by
  refine concatenate_ofFn_apply (t := S2048x1280) (s₁ := S2048x128) 1 f _ rfl 128 rfl (ix2 r j) ⟨j.val / 128, by omega⟩ rfl
    (ix2 r ⟨j.val % 128, by omega⟩) rfl fun b hb => ?_
  obtain rfl : b = 0 := by
    match b with
    | ⟨0, _⟩ => rfl
    | ⟨1, _⟩ => exact absurd rfl hb
  rfl

/-- The first layer's products, of the ten features' rows. -/
theorem pay2_apply (v : Fin 10 → S1x2048x128.Idx → EReal) (w1 : S1280x1024.Idx → EReal) (r : Fin 2048) (k : Fin 1024) :
    k1_pay2 (F := Ideal) (v 0) (v 1) (v 2) (v 3) (v 4) (v 5) (v 6) (v 7) (v 8) (v 9) w1 (ix2 r k)
      = ∑ j : Fin 1280, v ⟨j.val / 128, by omega⟩ (ix3 0 r ⟨j.val % 128, by omega⟩) * w1 (ix2 j k) := by
  unfold k1_pay2
  have key : ∀ c : S2048x1280.Idx → EReal,
      matmul (F := Ideal) (φ₁ := .bf16) (φ₂ := .bf16) dot_S2048x1280_S1280x1024_S2048x1024_1_0_0_1_n_n none c
        (shapeCast S1280x1024 w1 shapeCasts_S1280x1024_S1280x1024) (constant S2048x1024 .f32 0x00000000#32) (ix2 r k)
      = ∑ j : Fin 1280, c (ix2 r j) * w1 (ix2 j k) := fun c => by pointwise
  refine (key _).trans (Finset.sum_congr rfl fun j _ => congrArg (· * w1 (ix2 j k)) ?_)
  refine (cat_apply (fun s : Fin 10 => shapeCast S2048x128 (v s) shapeCasts_S1x2048x128_S2048x128) r j).trans ?_
  pointwise

/-- Where feature `s` of a chunk's rows stands in the chunk. -/
theorem row_idx (s : Fin 10) (h) (x : S1x2048x128.Idx) :
    (Rect.unit (s := S10x2048x128) ![s.val, 0, 0] S1x2048x128.size h).idx x = ix3 s (x 1) (x 2) := by
  funext a
  refine Fin.ext ?_
  match a with
  | ⟨0, _⟩ => have := (x 0).isLt; show s.val + 1 * (x 0).val = s.val; have h1 : (x 0).val < 1 := this; omega
  | ⟨1, _⟩ => show 0 + 1 * (x 1).val = (x 1).val; omega
  | ⟨2, _⟩ => show 0 + 1 * (x 2).val = (x 2).val; omega

/-- The whole of a matrix places every index at itself. -/
theorem whole_idx (A B : ℕ) (h) (x : (⟨2, ![A, B]⟩ : Shape).Idx) :
    (Rect.unit (s := ⟨2, ![A, B]⟩) ![0, 0] (⟨2, ![A, B]⟩ : Shape).size h).idx x = x := by
  funext a
  refine Fin.ext ?_
  match a with
  | ⟨0, _⟩ => show 0 + 1 * (x 0).val = (x 0).val; omega
  | ⟨1, _⟩ => show 0 + 1 * (x 1).val = (x 1).val; omega

/-- Feature `s` of a chunk's gathered rows. -/
abbrev rowOf (g : S10x2048x128.Idx → EReal) (s : Fin 10) : S1x2048x128.Idx → EReal := fun x => g (ix3 s (x 1) (x 2))

/-- The dense kernel's result at row `r` of its chunk. -/
theorem mlpOut_apply (g : S10x2048x128.Idx → EReal) (w1 : S1280x1024.Idx → EReal) (b1 : S1x1024.Idx → EReal)
    (w2 : S1024x128.Idx → EReal) (b2 : S1x1.Idx → EReal) (r : Fin 2048) :
    mlpOut (F := Ideal) g w1 b1 w2 b2 (ix1 r)
      = Ideal.logistic ((∑ k : Fin 1024, max ((∑ j : Fin 1280, g (ix3 ⟨j.val / 128, by omega⟩ r ⟨j.val % 128, by omega⟩) * w1 (ix2 j k))
          + b1 (ix2 0 k)) 0 * w2 (ix2 k 0)) + b2 (ix2 0 0)) := by
  have e : mlpOut (F := Ideal) g w1 b1 w2 b2 = k1_pay1 (F := Ideal) (k1_pay2 (F := Ideal) (rowOf g 0) (rowOf g 1) (rowOf g 2) (rowOf g 3)
      (rowOf g 4) (rowOf g 5) (rowOf g 6) (rowOf g 7) (rowOf g 8) (rowOf g 9) w1) b1 w2 b2 := by
    unfold mlpOut
    congr 1
    · congr 1
      · exact funext fun x => congrArg g (row_idx 0 _ x)
      · exact funext fun x => congrArg g (row_idx 1 _ x)
      · exact funext fun x => congrArg g (row_idx 2 _ x)
      · exact funext fun x => congrArg g (row_idx 3 _ x)
      · exact funext fun x => congrArg g (row_idx 4 _ x)
      · exact funext fun x => congrArg g (row_idx 5 _ x)
      · exact funext fun x => congrArg g (row_idx 6 _ x)
      · exact funext fun x => congrArg g (row_idx 7 _ x)
      · exact funext fun x => congrArg g (row_idx 8 _ x)
      · exact funext fun x => congrArg g (row_idx 9 _ x)
      · exact funext fun x => congrArg w1 (whole_idx _ _ _ x)
    · exact funext fun x => congrArg b1 (whole_idx _ _ _ x)
    · exact funext fun x => congrArg w2 (whole_idx _ _ _ x)
    · exact funext fun x => congrArg b2 (whole_idx _ _ _ x)
  rw [e, pay1_apply]
  refine congrArg (fun y => Ideal.logistic (y + b2 (ix2 0 0))) (Finset.sum_congr rfl fun k _ => ?_)
  exact congrArg (fun y => max (y + b1 (ix2 0 k)) 0 * w2 (ix2 k 0)) (pay2_apply (rowOf g) w1 r k)

end Cert.Proof

end
-- ==== Proof.Blocks.lean ====
/-
  The dense kernels' results over the extended reals, whole: each chunk of a slice's result is its rows' values, and the two
  chunks cover the slice.
-/
module

public import proofs.«01_k».proof.Proof.Dense
public import proofs.«01_k».proof.Proof.Row
public import Idealize.ShloMosaic.Lib.Pipeline.ValueKit.Geometry

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open Idealize.SL.Sem
open Idealize.ShloMosaic.Pipeline

/-- A slice's result, of its gathered rows (feature, row, column) and the weights. -/
def denseOut (g : S10x4096x128.Idx → EReal) (w1 : S1280x1024.Idx → EReal) (b1 : S1x1024.Idx → EReal)
    (w2 : S1024x128.Idx → EReal) (b2 : S1x1.Idx → EReal) : S4096.Idx → EReal := fun i =>
  Ideal.logistic ((∑ k : Fin 1024, max ((∑ j : Fin 1280, g (ix3 ⟨j.val / 128, by omega⟩ (i 0) ⟨j.val % 128, by omega⟩) * w1 (ix2 j k))
      + b1 (ix2 0 k)) 0 * w2 (ix2 k 0)) + b2 (ix2 0 0))

/-- A chunk whose blocks are read off the slice's arrays at row offset `o` gives the slice's rows from `o` on. -/
theorem chunk_eq (g : S10x4096x128.Idx → EReal) (w1 : S1280x1024.Idx → EReal) (b1 : S1x1024.Idx → EReal) (w2 : S1024x128.Idx → EReal)
    (b2 : S1x1.Idx → EReal) (g' : S10x2048x128.Idx → EReal) (w1' : S1280x1024.Idx → EReal) (b1' : S1x1024.Idx → EReal)
    (w2' : S1024x128.Idx → EReal) (b2' : S1x1.Idx → EReal) (i : S4096.Idx) (r : Fin 2048)
    (hg : ∀ s c, g' (ix3 s r c) = g (ix3 s (i 0) c)) (h1 : w1' = w1) (hb1 : b1' = b1) (h2 : w2' = w2) (hb2 : b2' = b2) :
    mlpOut (F := Ideal) g' w1' b1' w2' b2' (ix1 r) = denseOut g w1 b1 w2 b2 i := by
  subst h1 hb1 h2 hb2
  rw [mlpOut_apply]
  simp only [hg, denseOut]

variable (n : ℕ) (V : Dev nD → Valuation τ sig (Elt Ideal)) (c : Dev nD)

/-! ## Slice 0 -/

/-- Which block of each array a grid point takes. -/
theorem index1 : ∀ t : Fin grid1.N, win1_0.index t = ![0, t.val, 0] ∧ win1_1.index t = ![0, 0] ∧ win1_2.index t = ![0, 0]
    ∧ win1_3.index t = ![0, 0] ∧ win1_4.index t = ![0, 0] ∧ win1_5.index t = ![t.val] := by decide +kernel

/-- The dense kernel's result, whole. -/
theorem dense1 : (dat1 (F := Ideal) n V c).arrAt 5 cfg1.N
    = denseOut (V c (Proc.devRef .tc main_v14)) (V c (Proc.devRef .tc main_v1)) (V c (Proc.devRef .tc main_v3))
        (V c (Proc.devRef .tc main_v8)) (V c (Proc.devRef .tc main_v9)) := by
  refine (dat1 (F := Ideal) n V c).arrAt_eq_of_covers 5 _ (by decide +kernel) fun t hf y => ?_
  obtain ⟨e0, e1, e2, e3, e4, e5⟩ := index1 t
  blk_simp
  show mlpOut (F := Ideal) (blkOf cfg1 V c 0 t) (blkOf cfg1 V c 1 t) (blkOf cfg1 V c 2 t) (blkOf cfg1 V c 3 t) (blkOf cfg1 V c 4 t) y = _
  rw [show y = ix1 (y 0) from eq_ix1 y]
  refine chunk_eq _ _ _ _ _ _ _ _ _ _ _ _ (fun s x => ?_) ?_ ?_ ?_ ?_
  · show V c (Proc.devRef .tc main_v14) (((cfg1.win 0).blk t).view.emb (ix3 s (y 0) x)) = _
    blk_ext [e0, e5]
  · funext z
    show V c (Proc.devRef .tc main_v1) (((cfg1.win 1).blk t).view.emb z) = _
    blk_ext [e1]
  · funext z
    show V c (Proc.devRef .tc main_v3) (((cfg1.win 2).blk t).view.emb z) = _
    blk_ext [e2]
  · funext z
    show V c (Proc.devRef .tc main_v8) (((cfg1.win 3).blk t).view.emb z) = _
    blk_ext [e3]
  · funext z
    show V c (Proc.devRef .tc main_v9) (((cfg1.win 4).blk t).view.emb z) = _
    blk_ext [e4]

/-! ## Slice 1 -/

/-- Which block of each array a grid point takes. -/
theorem index3 : ∀ t : Fin grid3.N, win3_0.index t = ![0, t.val, 0] ∧ win3_1.index t = ![0, 0] ∧ win3_2.index t = ![0, 0]
    ∧ win3_3.index t = ![0, 0] ∧ win3_4.index t = ![0, 0] ∧ win3_5.index t = ![t.val] := by decide +kernel

/-- The dense kernel's result, whole. -/
theorem dense3 : (dat3 (F := Ideal) n V c).arrAt 5 cfg3.N
    = denseOut (V c (Proc.devRef .tc main_v20)) (V c (Proc.devRef .tc main_v1)) (V c (Proc.devRef .tc main_v3))
        (V c (Proc.devRef .tc main_v8)) (V c (Proc.devRef .tc main_v9)) := by
  refine (dat3 (F := Ideal) n V c).arrAt_eq_of_covers 5 _ (by decide +kernel) fun t hf y => ?_
  obtain ⟨e0, e1, e2, e3, e4, e5⟩ := index3 t
  blk_simp
  show mlpOut (F := Ideal) (blkOf cfg3 V c 0 t) (blkOf cfg3 V c 1 t) (blkOf cfg3 V c 2 t) (blkOf cfg3 V c 3 t) (blkOf cfg3 V c 4 t) y = _
  rw [show y = ix1 (y 0) from eq_ix1 y]
  refine chunk_eq _ _ _ _ _ _ _ _ _ _ _ _ (fun s x => ?_) ?_ ?_ ?_ ?_
  · show V c (Proc.devRef .tc main_v20) (((cfg3.win 0).blk t).view.emb (ix3 s (y 0) x)) = _
    blk_ext [e0, e5]
  · funext z
    show V c (Proc.devRef .tc main_v1) (((cfg3.win 1).blk t).view.emb z) = _
    blk_ext [e1]
  · funext z
    show V c (Proc.devRef .tc main_v3) (((cfg3.win 2).blk t).view.emb z) = _
    blk_ext [e2]
  · funext z
    show V c (Proc.devRef .tc main_v8) (((cfg3.win 3).blk t).view.emb z) = _
    blk_ext [e3]
  · funext z
    show V c (Proc.devRef .tc main_v9) (((cfg3.win 4).blk t).view.emb z) = _
    blk_ext [e4]

/-! ## Slice 2 -/

/-- Which block of each array a grid point takes. -/
theorem index5 : ∀ t : Fin grid5.N, win5_0.index t = ![0, t.val, 0] ∧ win5_1.index t = ![0, 0] ∧ win5_2.index t = ![0, 0]
    ∧ win5_3.index t = ![0, 0] ∧ win5_4.index t = ![0, 0] ∧ win5_5.index t = ![t.val] := by decide +kernel

/-- The dense kernel's result, whole. -/
theorem dense5 : (dat5 (F := Ideal) n V c).arrAt 5 cfg5.N
    = denseOut (V c (Proc.devRef .tc main_v26)) (V c (Proc.devRef .tc main_v1)) (V c (Proc.devRef .tc main_v3))
        (V c (Proc.devRef .tc main_v8)) (V c (Proc.devRef .tc main_v9)) := by
  refine (dat5 (F := Ideal) n V c).arrAt_eq_of_covers 5 _ (by decide +kernel) fun t hf y => ?_
  obtain ⟨e0, e1, e2, e3, e4, e5⟩ := index5 t
  blk_simp
  show mlpOut (F := Ideal) (blkOf cfg5 V c 0 t) (blkOf cfg5 V c 1 t) (blkOf cfg5 V c 2 t) (blkOf cfg5 V c 3 t) (blkOf cfg5 V c 4 t) y = _
  rw [show y = ix1 (y 0) from eq_ix1 y]
  refine chunk_eq _ _ _ _ _ _ _ _ _ _ _ _ (fun s x => ?_) ?_ ?_ ?_ ?_
  · show V c (Proc.devRef .tc main_v26) (((cfg5.win 0).blk t).view.emb (ix3 s (y 0) x)) = _
    blk_ext [e0, e5]
  · funext z
    show V c (Proc.devRef .tc main_v1) (((cfg5.win 1).blk t).view.emb z) = _
    blk_ext [e1]
  · funext z
    show V c (Proc.devRef .tc main_v3) (((cfg5.win 2).blk t).view.emb z) = _
    blk_ext [e2]
  · funext z
    show V c (Proc.devRef .tc main_v8) (((cfg5.win 3).blk t).view.emb z) = _
    blk_ext [e3]
  · funext z
    show V c (Proc.devRef .tc main_v9) (((cfg5.win 4).blk t).view.emb z) = _
    blk_ext [e4]

/-! ## Slice 3 -/

/-- Which block of each array a grid point takes. -/
theorem index7 : ∀ t : Fin grid7.N, win7_0.index t = ![0, t.val, 0] ∧ win7_1.index t = ![0, 0] ∧ win7_2.index t = ![0, 0]
    ∧ win7_3.index t = ![0, 0] ∧ win7_4.index t = ![0, 0] ∧ win7_5.index t = ![t.val] := by decide +kernel

/-- The dense kernel's result, whole. -/
theorem dense7 : (dat7 (F := Ideal) n V c).arrAt 5 cfg7.N
    = denseOut (V c (Proc.devRef .tc main_v32)) (V c (Proc.devRef .tc main_v1)) (V c (Proc.devRef .tc main_v3))
        (V c (Proc.devRef .tc main_v8)) (V c (Proc.devRef .tc main_v9)) := by
  refine (dat7 (F := Ideal) n V c).arrAt_eq_of_covers 5 _ (by decide +kernel) fun t hf y => ?_
  obtain ⟨e0, e1, e2, e3, e4, e5⟩ := index7 t
  blk_simp
  show mlpOut (F := Ideal) (blkOf cfg7 V c 0 t) (blkOf cfg7 V c 1 t) (blkOf cfg7 V c 2 t) (blkOf cfg7 V c 3 t) (blkOf cfg7 V c 4 t) y = _
  rw [show y = ix1 (y 0) from eq_ix1 y]
  refine chunk_eq _ _ _ _ _ _ _ _ _ _ _ _ (fun s x => ?_) ?_ ?_ ?_ ?_
  · show V c (Proc.devRef .tc main_v32) (((cfg7.win 0).blk t).view.emb (ix3 s (y 0) x)) = _
    blk_ext [e0, e5]
  · funext z
    show V c (Proc.devRef .tc main_v1) (((cfg7.win 1).blk t).view.emb z) = _
    blk_ext [e1]
  · funext z
    show V c (Proc.devRef .tc main_v3) (((cfg7.win 2).blk t).view.emb z) = _
    blk_ext [e2]
  · funext z
    show V c (Proc.devRef .tc main_v8) (((cfg7.win 3).blk t).view.emb z) = _
    blk_ext [e3]
  · funext z
    show V c (Proc.devRef .tc main_v9) (((cfg7.win 4).blk t).view.emb z) = _
    blk_ext [e4]

end Cert.Proof

end
-- ==== Proof.Scores.lean ====
/-
  The kernel's result is the scores: the weights as the first operations lay them out, each slice's rows, the dense kernels'
  results, and the four slices end to end.
-/
module

public import proofs.«01_k».proof.Proof.Blocks
public import proofs.«01_k».proof.Proof.Main
public import proofs.«01_k».proof.Proof.Score
public import Idealize.ShloMosaic.Lib.Routing.OpsOne

@[expose] public section

noncomputable section

namespace Cert.Proof

open Cert.KernelIdeal Cert.KernelIdeal.Gen

open Idealize.ShloMosaic
open Idealize.ShloMosaic.TcCoe
open Idealize.SL.Sem

/-! ## The weights -/

/-- A column set at a literal index: the column holds the update. -/
theorem scatter_col (x : S1024x128.Idx → EReal) (i : S1.Idx → BitVec 32) (u : S1024.Idx → EReal) (hi : i (ix1 0) = 0#32) (k : Fin 1024) :
    Host.scatter scatter_S1024x128_S1_S1024_0_1_1_0 (fun _ b => b) x i u (ix2 k 0) = u (ix1 k) := by
  have lands := fun w => Routing.lands_col scatter_S1024x128_S1_S1024_0_1_1_0 rfl rfl i (0 : Fin 128)
    (by rw [← ix1_eq_valueIdx, hi]; rfl) w k 0
  rw [ix2_eq_valueIdx, ix1_eq_valueIdx]
  refine Routing.scatter_set_hit _ x i u _ _ (fun j hj => ?_) (ValueIdx.ix1 k) ((lands k).2 ⟨rfl, rfl⟩)
  obtain ⟨w, rfl⟩ : ∃ w, j = ValueIdx.ix1 w := ⟨j 0, ValueIdx.eq_ix1 j⟩
  exact congrArg (fun z => u (ValueIdx.ix1 z)) ((lands _).1 hj).1

/-- The first layer's weights, transposed. -/
theorem pre_w1 (V : Valuation τ sig (Elt Ideal)) (j : Fin 1280) (k : Fin 1024) :
    (StableHlo.after pre V (dr main_v1) : S1280x1024.Idx → EReal) (ix2 j k) = (V (dr main_arg2) : S1024x1280.Idx → EReal) (ix2 k j) := by
  have e : StableHlo.after pre V (dr main_v1) = truncf (F := Ideal) .bf16 (transpose S1280x1024 [1, 0] (V (dr main_arg2)) transposes_S1024x1280_S1280x1024_1_0) bitsLt_bf16_f32 := by
    unfold pre
    after_results_simp <;> rfl
  rw [e]
  pointwise

/-- The first layer's bias, as a row. -/
theorem pre_b1 (V : Valuation τ sig (Elt Ideal)) (k : Fin 1024) :
    (StableHlo.after pre V (dr main_v3) : S1x1024.Idx → EReal) (ix2 0 k) = (V (dr main_arg3) : S1024.Idx → EReal) (ix1 k) := by
  have e : StableHlo.after pre V (dr main_v3) = shapeCast S1x1024 (truncf (F := Ideal) .bf16 (V (dr main_arg3)) bitsLt_bf16_f32) shapeCasts_S1024_S1x1024 := by
    unfold pre
    after_results_simp <;> rfl
  rw [e]
  pointwise

/-- Over the extended reals a narrowing leaves the second layer's weights as they are. -/
theorem narrow_eq (x : S1024x128.Idx → EReal) : truncf (F := Ideal) (φ := .f32) .bf16 x bitsLt_bf16_f32 = x := rfl

/-- The second layer's weights, in column 0. -/
theorem pre_w2 (V : Valuation τ sig (Elt Ideal)) (k : Fin 1024) :
    (StableHlo.after pre V (dr main_v8) : S1024x128.Idx → EReal) (ix2 k 0) = (V (dr main_arg4) : S1x1024.Idx → EReal) (ix2 0 k) := by
  have e : StableHlo.after pre V (dr main_v8) = truncf (F := Ideal) .bf16 (Host.scatter scatter_S1024x128_S1_S1024_0_1_1_0 (fun _ b => b) (broadcastInDim S1024x128 ![] bcast_S_S1024x128 (constant S_ .f32 0x00000000#32))
      (broadcastInDim S1 ![] bcast_S_S1 (constantI S_ 32 0#32)) (shapeCast S1024 (V (dr main_arg4)) shapeCasts_S1x1024_S1024)) bitsLt_bf16_f32 := by
    unfold pre
    after_results_simp <;> rfl
  rw [e]
  refine (congrFun (narrow_eq _) _).trans ((scatter_col _ (broadcastInDim S1 ![] bcast_S_S1 (constantI S_ 32 0#32)) _ rfl k).trans ?_)
  pointwise

/-- The second layer's bias. -/
theorem pre_b2 (V : Valuation τ sig (Elt Ideal)) :
    (StableHlo.after pre V (dr main_v9) : S1x1.Idx → EReal) (ix2 0 0) = (V (dr main_arg5) : S1.Idx → EReal) (ix1 0) := by
  have e : StableHlo.after pre V (dr main_v9) = shapeCast S1x1 (V (dr main_arg5)) shapeCasts_S1_S1x1 := by
    unfold pre
    after_results_simp <;> rfl
  rw [e]
  pointwise

/-! ## A slice -/

/-- Slice `q`'s gathered rows: feature `s` of its row `i` is the table's row that lookup `(4096 q + i, s)` names. -/
theorem rows_apply (q : Fin 4) (x : S16384x10.Idx → BitVec 32) (tb : S100000x128.Idx → EReal) (s : Fin 10) (i : Fin 4096) (c : Fin 128) :
    shapeCast S10x4096x128 (gath tb (idxOf q x)) shapeCasts_S40960x128_S10x4096x128 (ix3 s i c)
      = tb (tIx (x (ix2 ⟨4096 * q.val + i.val, by omega⟩ s)).toNat c) := by
  have e : ∀ q : Fin 4, idxOf q x (ix1 ⟨s.val * 4096 + i.val, by omega⟩) = x (ix2 ⟨4096 * q.val + i.val, by omega⟩ s) := fun q => by
    match q with
    | 0 => pointwise [idxOf]
    | 1 => pointwise [idxOf]
    | 2 => pointwise [idxOf]
    | 3 => pointwise [idxOf]
  have r : shapeCast S10x4096x128 (gath tb (idxOf q x)) shapeCasts_S40960x128_S10x4096x128 (ix3 s i c)
      = gath tb (idxOf q x) (ix2 ⟨s.val * 4096 + i.val, by omega⟩ c) := by
    pointwise
  rw [r, ← e q]
  refine congrArg (fun z => tb (tIx (idxOf q x z).toNat c)) (funext fun a => ?_)
  match a with
  | 0 => rfl

/-- Slice `q`'s result is its rows' scores. -/
theorem slice_score (q : Fin 4) (x : S16384x10.Idx → BitVec 32) (tb : S100000x128.Idx → EReal) (w1 : S1024x1280.Idx → EReal)
    (b1 : S1024.Idx → EReal) (w2 : S1x1024.Idx → EReal) (b2 : S1.Idx → EReal) (w1' : S1280x1024.Idx → EReal) (b1' : S1x1024.Idx → EReal)
    (w2' : S1024x128.Idx → EReal) (b2' : S1x1.Idx → EReal) (h1 : ∀ j k, w1' (ix2 j k) = w1 (ix2 k j)) (hb1 : ∀ k, b1' (ix2 0 k) = b1 (ix1 k))
    (h2 : ∀ k, w2' (ix2 k 0) = w2 (ix2 0 k)) (hb2 : b2' (ix2 0 0) = b2 (ix1 0)) (i : Fin 4096) :
    denseOut (shapeCast S10x4096x128 (gath tb (idxOf q x)) shapeCasts_S40960x128_S10x4096x128) w1' b1' w2' b2' (ix1 i)
      = score x tb w1 b1 w2 b2 (ix1 ⟨4096 * q.val + i.val, by omega⟩) := by
  show Ideal.logistic _ = Ideal.logistic _
  have e : ∀ s c, shapeCast S10x4096x128 (gath tb (idxOf q x)) shapeCasts_S40960x128_S10x4096x128 (ix3 s ((ix1 i : S4096.Idx) 0) c)
      = tb (tIx (x (ix2 ⟨4096 * q.val + i.val, by omega⟩ s)).toNat c) := fun s c => rows_apply q x tb s i c
  simp only [h1, hb1, h2, hb2, e]
  rfl

variable (m : (ℓ : Loc nD τ sig) → Buf (Elt Ideal) ℓ) (d : Dev nD)

/-- The scores, of what the launch memory holds. -/
abbrev scores : S16384.Idx → EReal :=
  score (V0 m d (dr main_arg0)) (V0 m d (dr main_arg1)) (V0 m d (dr main_arg2)) (V0 m d (dr main_arg3)) (V0 m d (dr main_arg4)) (V0 m d (dr main_arg5))

/-- Slice 0's result. -/
theorem slice0 (i : Fin 4096) : (VA m d 1 (dr main_v15) : S4096.Idx → EReal) (ix1 i) = scores m d (ix1 ⟨0 + i.val, by omega⟩) := by
  have keep : ∀ r : Ref sig .tc, (∀ p : Fin 4, p.val < 1 → r ∉ wr p) →
      StableHlo.after (md 0) (put 0 (StableHlo.after (sl 0) (VA m d 0))) (dr r) = StableHlo.after pre (V0 m d) (dr r) := fun r h =>
    (mid_keep 0 _ r (h 0 (by decide))).trans (VA_keep m d r 0 fun p hp => h p (Nat.lt_succ_of_lt hp))
  have g : StableHlo.after (md 0) (put 0 (StableHlo.after (sl 0) (VA m d 0))) (dr main_v14)
      = shapeCast S10x4096x128 (gath (tbl m d) (idx m 0 d)) shapeCasts_S40960x128_S10x4096x128 := by
    obtain ⟨e1, e2, -⟩ := callOK m d 0
    refine (show StableHlo.after (md 0) _ _ = shapeCast S10x4096x128 (put 0 (StableHlo.after (sl 0) (VA m d 0)) (dr main_v13)) shapeCasts_S40960x128_S10x4096x128 from by
      unfold md
      rw [StableHlo.after_cons, StableHlo.after_nil, StableHlo.reshape_result']
      rfl).trans ?_
    refine congrArg (fun z => shapeCast S10x4096x128 z shapeCasts_S40960x128_S10x4096x128) ?_
    exact (show put 0 (StableHlo.after (sl 0) (VA m d 0)) (dr main_v13) = gath (StableHlo.after (sl 0) (VA m d 0) (dr main_arg1))
      (StableHlo.after (sl 0) (VA m d 0) (dr main_v12)) from by unfold put; exact Function.update_self _ _ _).trans (congrArg₂ gath e1 e2)
  have e : VA m d 1 (dr main_v15) = _ :=
    (Pipeline.afterRegion_arr (pdats (0 + 1) (fun _ => StableHlo.after (md 0) (put 0 (StableHlo.after (sl 0) (VA m d 0)))) 0 d)
      (StableHlo.after (md 0) (put 0 (StableHlo.after (sl 0) (VA m d 0))))
      (kit (F := Ideal) 0).win.arr_inj 5).trans (dense1 (0 + 1) (fun _ => StableHlo.after (md 0) (put 0 (StableHlo.after (sl 0) (VA m d 0)))) d)
  rw [e, g, keep main_v1 (by decide), keep main_v3 (by decide), keep main_v8 (by decide), keep main_v9 (by decide)]
  exact slice_score 0 _ _ _ _ _ _ _ _ _ _ (pre_w1 _) (pre_b1 _) (pre_w2 _) (pre_b2 _) i

/-- Slice 1's result. -/
theorem slice1 (i : Fin 4096) : (VA m d 2 (dr main_v21) : S4096.Idx → EReal) (ix1 i) = scores m d (ix1 ⟨4096 + i.val, by omega⟩) := by
  have keep : ∀ r : Ref sig .tc, (∀ p : Fin 4, p.val < 2 → r ∉ wr p) →
      StableHlo.after (md 1) (put 1 (StableHlo.after (sl 1) (VA m d 1))) (dr r) = StableHlo.after pre (V0 m d) (dr r) := fun r h =>
    (mid_keep 1 _ r (h 1 (by decide))).trans (VA_keep m d r 1 fun p hp => h p (Nat.lt_succ_of_lt hp))
  have g : StableHlo.after (md 1) (put 1 (StableHlo.after (sl 1) (VA m d 1))) (dr main_v20)
      = shapeCast S10x4096x128 (gath (tbl m d) (idx m 1 d)) shapeCasts_S40960x128_S10x4096x128 := by
    obtain ⟨e1, e2, -⟩ := callOK m d 1
    refine (show StableHlo.after (md 1) _ _ = shapeCast S10x4096x128 (put 1 (StableHlo.after (sl 1) (VA m d 1)) (dr main_v19)) shapeCasts_S40960x128_S10x4096x128 from by
      unfold md
      rw [StableHlo.after_cons, StableHlo.after_nil, StableHlo.reshape_result']
      rfl).trans ?_
    refine congrArg (fun z => shapeCast S10x4096x128 z shapeCasts_S40960x128_S10x4096x128) ?_
    exact (show put 1 (StableHlo.after (sl 1) (VA m d 1)) (dr main_v19) = gath (StableHlo.after (sl 1) (VA m d 1) (dr main_arg1))
      (StableHlo.after (sl 1) (VA m d 1) (dr main_v18)) from by unfold put; exact Function.update_self _ _ _).trans (congrArg₂ gath e1 e2)
  have e : VA m d 2 (dr main_v21) = _ :=
    (Pipeline.afterRegion_arr (pdats (1 + 1) (fun _ => StableHlo.after (md 1) (put 1 (StableHlo.after (sl 1) (VA m d 1)))) 1 d)
      (StableHlo.after (md 1) (put 1 (StableHlo.after (sl 1) (VA m d 1))))
      (kit (F := Ideal) 1).win.arr_inj 5).trans (dense3 (1 + 1) (fun _ => StableHlo.after (md 1) (put 1 (StableHlo.after (sl 1) (VA m d 1)))) d)
  rw [e, g, keep main_v1 (by decide), keep main_v3 (by decide), keep main_v8 (by decide), keep main_v9 (by decide)]
  exact slice_score 1 _ _ _ _ _ _ _ _ _ _ (pre_w1 _) (pre_b1 _) (pre_w2 _) (pre_b2 _) i

/-- Slice 2's result. -/
theorem slice2 (i : Fin 4096) : (VA m d 3 (dr main_v27) : S4096.Idx → EReal) (ix1 i) = scores m d (ix1 ⟨8192 + i.val, by omega⟩) := by
  have keep : ∀ r : Ref sig .tc, (∀ p : Fin 4, p.val < 3 → r ∉ wr p) →
      StableHlo.after (md 2) (put 2 (StableHlo.after (sl 2) (VA m d 2))) (dr r) = StableHlo.after pre (V0 m d) (dr r) := fun r h =>
    (mid_keep 2 _ r (h 2 (by decide))).trans (VA_keep m d r 2 fun p hp => h p (Nat.lt_succ_of_lt hp))
  have g : StableHlo.after (md 2) (put 2 (StableHlo.after (sl 2) (VA m d 2))) (dr main_v26)
      = shapeCast S10x4096x128 (gath (tbl m d) (idx m 2 d)) shapeCasts_S40960x128_S10x4096x128 := by
    obtain ⟨e1, e2, -⟩ := callOK m d 2
    refine (show StableHlo.after (md 2) _ _ = shapeCast S10x4096x128 (put 2 (StableHlo.after (sl 2) (VA m d 2)) (dr main_v25)) shapeCasts_S40960x128_S10x4096x128 from by
      unfold md
      rw [StableHlo.after_cons, StableHlo.after_nil, StableHlo.reshape_result']
      rfl).trans ?_
    refine congrArg (fun z => shapeCast S10x4096x128 z shapeCasts_S40960x128_S10x4096x128) ?_
    exact (show put 2 (StableHlo.after (sl 2) (VA m d 2)) (dr main_v25) = gath (StableHlo.after (sl 2) (VA m d 2) (dr main_arg1))
      (StableHlo.after (sl 2) (VA m d 2) (dr main_v24)) from by unfold put; exact Function.update_self _ _ _).trans (congrArg₂ gath e1 e2)
  have e : VA m d 3 (dr main_v27) = _ :=
    (Pipeline.afterRegion_arr (pdats (2 + 1) (fun _ => StableHlo.after (md 2) (put 2 (StableHlo.after (sl 2) (VA m d 2)))) 2 d)
      (StableHlo.after (md 2) (put 2 (StableHlo.after (sl 2) (VA m d 2))))
      (kit (F := Ideal) 2).win.arr_inj 5).trans (dense5 (2 + 1) (fun _ => StableHlo.after (md 2) (put 2 (StableHlo.after (sl 2) (VA m d 2)))) d)
  rw [e, g, keep main_v1 (by decide), keep main_v3 (by decide), keep main_v8 (by decide), keep main_v9 (by decide)]
  exact slice_score 2 _ _ _ _ _ _ _ _ _ _ (pre_w1 _) (pre_b1 _) (pre_w2 _) (pre_b2 _) i

/-- Slice 3's result. -/
theorem slice3 (i : Fin 4096) : (VA m d 4 (dr main_v33) : S4096.Idx → EReal) (ix1 i) = scores m d (ix1 ⟨12288 + i.val, by omega⟩) := by
  have keep : ∀ r : Ref sig .tc, (∀ p : Fin 4, p.val < 4 → r ∉ wr p) →
      StableHlo.after (md 3) (put 3 (StableHlo.after (sl 3) (VA m d 3))) (dr r) = StableHlo.after pre (V0 m d) (dr r) := fun r h =>
    (mid_keep 3 _ r (h 3 (by decide))).trans (VA_keep m d r 3 fun p hp => h p (Nat.lt_succ_of_lt hp))
  have g : StableHlo.after (md 3) (put 3 (StableHlo.after (sl 3) (VA m d 3))) (dr main_v32)
      = shapeCast S10x4096x128 (gath (tbl m d) (idx m 3 d)) shapeCasts_S40960x128_S10x4096x128 := by
    obtain ⟨e1, e2, -⟩ := callOK m d 3
    refine (show StableHlo.after (md 3) _ _ = shapeCast S10x4096x128 (put 3 (StableHlo.after (sl 3) (VA m d 3)) (dr main_v31)) shapeCasts_S40960x128_S10x4096x128 from by
      unfold md
      rw [StableHlo.after_cons, StableHlo.after_nil, StableHlo.reshape_result']
      rfl).trans ?_
    refine congrArg (fun z => shapeCast S10x4096x128 z shapeCasts_S40960x128_S10x4096x128) ?_
    exact (show put 3 (StableHlo.after (sl 3) (VA m d 3)) (dr main_v31) = gath (StableHlo.after (sl 3) (VA m d 3) (dr main_arg1))
      (StableHlo.after (sl 3) (VA m d 3) (dr main_v30)) from by unfold put; exact Function.update_self _ _ _).trans (congrArg₂ gath e1 e2)
  have e : VA m d 4 (dr main_v33) = _ :=
    (Pipeline.afterRegion_arr (pdats (3 + 1) (fun _ => StableHlo.after (md 3) (put 3 (StableHlo.after (sl 3) (VA m d 3)))) 3 d)
      (StableHlo.after (md 3) (put 3 (StableHlo.after (sl 3) (VA m d 3))))
      (kit (F := Ideal) 3).win.arr_inj 5).trans (dense7 (3 + 1) (fun _ => StableHlo.after (md 3) (put 3 (StableHlo.after (sl 3) (VA m d 3)))) d)
  rw [e, g, keep main_v1 (by decide), keep main_v3 (by decide), keep main_v8 (by decide), keep main_v9 (by decide)]
  exact slice_score 3 _ _ _ _ _ _ _ _ _ _ (pre_w1 _) (pre_b1 _) (pre_w2 _) (pre_b2 _) i

/-! ## The whole -/

/-- Four slices end to end, at a row. -/
theorem four_apply (f : Fin 4 → S4096.Idx → EReal) (q : Fin 4) (i : Fin 4096) :
    concatenate S16384 0 [⟨S4096, f 0⟩, ⟨S4096, f 1⟩, ⟨S4096, f 2⟩, ⟨S4096, f 3⟩] concatenates_S4096_S4096_S4096_S4096_S16384_d0
      (ix1 ⟨4096 * q.val + i.val, by omega⟩) = f q (ix1 i) := by
  refine concatenate_ofFn_apply (t := S16384) (s₁ := S4096) 0 f concatenates_S4096_S4096_S4096_S4096_S16384_d0 rfl 4096 rfl (ix1 ⟨4096 * q.val + i.val, by omega⟩) q
    ?_ (ix1 i) ?_ fun b hb => absurd (Subsingleton.elim (α := Fin 1) _ _) hb
  · show (4096 * q.val + i.val) / 4096 = q.val
    omega
  · show i.val = (4096 * q.val + i.val) % 4096
    omega

/-- The slices' results as the last operation finds them. -/
def outs (q : Fin 4) : S4096.Idx → EReal :=
  match q with
  | 0 => VA m d 4 (dr main_v15)
  | 1 => VA m d 4 (dr main_v21)
  | 2 => VA m d 4 (dr main_v27)
  | 3 => VA m d 4 (dr main_v33)

/-- Each is its rows' scores: the later slices leave it as it was. -/
theorem outs_apply (q : Fin 4) (i : Fin 4096) : outs m d q (ix1 i) = scores m d (ix1 ⟨4096 * q.val + i.val, by omega⟩) := by
  match q with
  | 0 => exact (congrFun ((stepV_keep 3 _ d main_v15 (by decide)).trans ((stepV_keep 2 _ d main_v15 (by decide)).trans
      (stepV_keep 1 _ d main_v15 (by decide)))) (ix1 i)).trans (slice0 m d i)
  | 1 => exact (congrFun ((stepV_keep 3 _ d main_v21 (by decide)).trans (stepV_keep 2 _ d main_v21 (by decide))) (ix1 i)).trans (slice1 m d i)
  | 2 => exact (congrFun (stepV_keep 3 _ d main_v27 (by decide)) (ix1 i)).trans (slice2 m d i)
  | 3 => exact slice3 m d i

/-- The kernel's result is the scores. -/
theorem VF_score : (VF m d (dr main_v34) : S16384.Idx → EReal) = scores m d := by
  have e : VF m d (dr main_v34) = concatenate S16384 0 [⟨S4096, outs m d 0⟩, ⟨S4096, outs m d 1⟩, ⟨S4096, outs m d 2⟩, ⟨S4096, outs m d 3⟩]
      concatenates_S4096_S4096_S4096_S4096_S16384_d0 := by
    unfold VF fin
    rw [StableHlo.after_cons, StableHlo.after_nil, StableHlo.nary4_result]
    rfl
  funext j
  obtain ⟨b, rfl⟩ : ∃ b : Fin 16384, j = ix1 b := ⟨j 0, eq_ix1 j⟩
  have hb : b = ⟨4096 * (⟨b.val / 4096, by omega⟩ : Fin 4).val + (⟨b.val % 4096, by omega⟩ : Fin 4096).val, by simp only; omega⟩ :=
    Fin.ext (by simp only; omega)
  rw [e, hb, four_apply, outs_apply]

end Cert.Proof

end
-- ==== Proof.Algebraic.lean ====
/-
  The kernel and the reference give equal results over the extended reals: both give the scores.
-/
module

public import proofs.«01_k».proof.Proof.Frames
public import proofs.«01_k».proof.Proof.Reference
public import proofs.«01_k».proof.Proof.Scores

@[expose] public section

noncomputable section

namespace Cert.Proof

open Idealize.ShloMosaic Idealize.ShloMosaic.TcCoe Idealize.SL.Sem

attribute [local instance] Cert.ReferenceIdeal.Gen.facts Cert.Pre_rows_in_table.Gen.facts Cert.KernelIdeal.Gen.facts

/-- From memories that agree on the arguments, both programs end with the scores, the arguments unchanged. -/
theorem algebraic : Cert.algebraic_KernelIdeal_ReferenceIdeal := fun m g m' g' hp ha => by
  have hx : ∀ d j, ((V0 m d (dr Cert.KernelIdeal.main_arg0) : Cert.KernelIdeal.S16384x10.Idx → BitVec 32) j).toNat < 100000 :=
    fun d => rows_of_pre _ _ _ _ _ _ (hp d)
  refine ⟨fun c => scores m c, (θ_run Cert.KernelIdeal.defs _ _).mono (fun _ h c => ?_) (kernel_frame (F := Ideal) m g hx),
    (θ_run Cert.ReferenceIdeal.defs _ _).mono (fun _ h c => ⟨(h c).1.trans ?_, (h c).2⟩) (Cert.ReferenceIdeal.Value.run (F := Ideal) m' g')⟩
  · exact ⟨(h.1 c).1.trans (VF_score m c), (h.1 c).2⟩
  · obtain ⟨e0, e1, e2, e3, e4, e5⟩ := ha c
    rw [e0, e1, e2, e3, e4, e5]
    exact refOut_score _ _ _ _ _ _ (hx c)

end Cert.Proof

end
-- ==== Proof.lean ====
/-
  The certificate's claim, put together from its parts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_in_table
public import proofs.«01_k».proof.Proof.Algebraic
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts,
  Cert.Pre_rows_in_table.Gen.facts, frame_kernel, frame_ideal, frame_reference, frame_reference_pre, trivial, algebraic⟩

end Cert.Proof

end
